-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Reference1Ideal (m : (ℓ : Loc Cert.Reference1Ideal.nD Cert.Reference1Ideal.τ Cert.Reference1Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3)
      ∧ r.2.mem ((c.tc : Thread Cert.Kernel1.nD Cert.Kernel1.τ).loc Cert.Kernel1.main_arg4) = m ((c.tc : Thread Cert.Kernel1.nD Cert.Kernel1.τ).loc Cert.Kernel1.main_arg4)
      ∧ r.2.mem ((c.tc : Thread Cert.Kernel1.nD Cert.Kernel1.τ).loc Cert.Kernel1.main_arg5) = m ((c.tc : Thread Cert.Kernel1.nD Cert.Kernel1.τ).loc Cert.Kernel1.main_arg5))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v17) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel1_Kernel1Ideal : Prop :=
  True

def algebraic_Kernel1Ideal_Reference1Ideal [hKernel1Ideal : Cert.Kernel1Ideal.Facts] [hReference1Ideal : Cert.Reference1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)
      ∧ m' ((c.tc : Thread Cert.Reference1Ideal.nD Cert.Reference1Ideal.τ).loc Cert.Reference1Ideal.main_arg5) = m ((c.tc : Thread Cert.Kernel1Ideal.nD Cert.Kernel1Ideal.τ).loc Cert.Kernel1Ideal.main_arg5)) →
    ∃ (v0 : (c : Dev Cert.Kernel1Ideal.nD) → Buf (Elt Ideal) ((c.tc : Thread Cert.Kernel1Ideal.nD Cert.Kernel1Ideal.τ).loc Cert.Kernel1Ideal.main_v63_0)) (v1 : (c : Dev Cert.Kernel1Ideal.nD) → Buf (Elt Ideal) ((c.tc : Thread Cert.Kernel1Ideal.nD Cert.Kernel1Ideal.τ).loc Cert.Kernel1Ideal.main_v63_1)) (v2 : (c : Dev Cert.Kernel1Ideal.nD) → Buf (Elt Ideal) ((c.tc : Thread Cert.Kernel1Ideal.nD Cert.Kernel1Ideal.τ).loc Cert.Kernel1Ideal.main_v63_2)) (v3 : (c : Dev Cert.Kernel1Ideal.nD) → Buf (Elt Ideal) ((c.tc : Thread Cert.Kernel1Ideal.nD Cert.Kernel1Ideal.τ).loc Cert.Kernel1Ideal.main_v63_3)) (v4 : (c : Dev Cert.Kernel1Ideal.nD) → Buf (Elt Ideal) ((c.tc : Thread Cert.Kernel1Ideal.nD Cert.Kernel1Ideal.τ).loc Cert.Kernel1Ideal.main_v63_4)) (v5 : (c : Dev Cert.Kernel1Ideal.nD) → Buf (Elt Ideal) ((c.tc : Thread Cert.Kernel1Ideal.nD Cert.Kernel1Ideal.τ).loc Cert.Kernel1Ideal.main_v63_5)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v63_0) = v0 c
          ∧ r.2.mem ((c.tc : Thread Cert.Kernel1Ideal.nD Cert.Kernel1Ideal.τ).loc Cert.Kernel1Ideal.main_v63_1) = v1 c
          ∧ r.2.mem ((c.tc : Thread Cert.Kernel1Ideal.nD Cert.Kernel1Ideal.τ).loc Cert.Kernel1Ideal.main_v63_2) = v2 c
          ∧ r.2.mem ((c.tc : Thread Cert.Kernel1Ideal.nD Cert.Kernel1Ideal.τ).loc Cert.Kernel1Ideal.main_v63_3) = v3 c
          ∧ r.2.mem ((c.tc : Thread Cert.Kernel1Ideal.nD Cert.Kernel1Ideal.τ).loc Cert.Kernel1Ideal.main_v63_4) = v4 c
          ∧ r.2.mem ((c.tc : Thread Cert.Kernel1Ideal.nD Cert.Kernel1Ideal.τ).loc Cert.Kernel1Ideal.main_v63_5) = v5 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
          ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
          ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v103) = v0 c
          ∧ r.2.mem ((c.tc : Thread Cert.Reference1Ideal.nD Cert.Reference1Ideal.τ).loc Cert.Reference1Ideal.main_v105) = v1 c
          ∧ r.2.mem ((c.tc : Thread Cert.Reference1Ideal.nD Cert.Reference1Ideal.τ).loc Cert.Reference1Ideal.main_v107) = v2 c
          ∧ r.2.mem ((c.tc : Thread Cert.Reference1Ideal.nD Cert.Reference1Ideal.τ).loc Cert.Reference1Ideal.main_v109) = v3 c
          ∧ r.2.mem ((c.tc : Thread Cert.Reference1Ideal.nD Cert.Reference1Ideal.τ).loc Cert.Reference1Ideal.main_v112) = v4 c
          ∧ r.2.mem ((c.tc : Thread Cert.Reference1Ideal.nD Cert.Reference1Ideal.τ).loc Cert.Reference1Ideal.main_v115) = v5 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4)
          ∧ r.2.mem ((c.tc : Thread Cert.Reference1Ideal.nD Cert.Reference1Ideal.τ).loc Cert.Reference1Ideal.main_arg5) = m' ((c.tc : Thread Cert.Reference1Ideal.nD Cert.Reference1Ideal.τ).loc Cert.Reference1Ideal.main_arg5))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel1 : Cert.Kernel1.Facts) (hKernel1Ideal : Cert.Kernel1Ideal.Facts) (hReference1Ideal : Cert.Reference1Ideal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel1 (hKernel1 := hKernel1)
    ∧ quiescent_Kernel1Ideal (hKernel1Ideal := hKernel1Ideal)
    ∧ quiescent_Reference1Ideal (hReference1Ideal := hReference1Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel1_Kernel1Ideal
    ∧ algebraic_Kernel1Ideal_Reference1Ideal (hKernel1Ideal := hKernel1Ideal) (hReference1Ideal := hReference1Ideal)
-- ==== Kernel2.lean ====
abbrev S8x4096x1024 : Shape := ⟨3, ![8, 4096, 1024]⟩
abbrev S8x4096x512 : Shape := ⟨3, ![8, 4096, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S32768x512 : Shape := ⟨2, ![32768, 512]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩
abbrev S512x2816 : Shape := ⟨2, ![512, 2816]⟩

abbrev nBuf : Space → Nat
  | .hbm => 26
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S1024, .f32⟩
  | .hbm, ⟨11, _⟩ => ⟨S32768x1024, .f32⟩
  | .hbm, ⟨12, _⟩ => ⟨S32768x512, .bf16⟩
  | .hbm, ⟨13, _⟩ => ⟨S32768x512, .bf16⟩
  | .hbm, ⟨14, _⟩ => ⟨S512x1024, .f32⟩
  | .hbm, ⟨15, _⟩ => ⟨S512x1024, .f32⟩
  | .hbm, ⟨16, _⟩ => ⟨S512x1024, .bf16⟩
  | .hbm, ⟨17, _⟩ => ⟨S512x1024, .bf16⟩
  | .hbm, ⟨18, _⟩ => ⟨S1x1024, .f32⟩
  | .hbm, ⟨19, _⟩ => ⟨S1x1024, .f32⟩
  | .hbm, ⟨20, _⟩ => ⟨S1024x2816, .bf16⟩
  | .hbm, ⟨21, _⟩ => ⟨S1024x2816, .bf16⟩
  | .hbm, ⟨22, _⟩ => ⟨S2816x1024, .bf16⟩
  | .hbm, ⟨23, _⟩ => ⟨S1x1024, .f32⟩
  | .hbm, ⟨24, _⟩ => ⟨S1x1024, .f32⟩
  | .hbm, ⟨25, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S8x4096x1024 : Shape := ⟨3, ![8, 4096, 1024]⟩
abbrev S8x4096x512 : Shape := ⟨3, ![8, 4096, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S32768x1024 : Shape := ⟨2, ![32768, 1024]⟩

abbrev nBuf : Space → Nat
  | .hbm => 95
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S1024, .f32⟩
  | .hbm, ⟨11, _⟩ => ⟨S8x4096x512, .f32⟩
  | .hbm, ⟨12, _⟩ => ⟨S8x4096x512, .f32⟩
  | .hbm, ⟨13, _⟩ => ⟨S8x4096x1024, .f32⟩
  | .hbm, ⟨14, _⟩ => ⟨S8x4096x1024, .f32⟩
  | .hbm, ⟨15, _⟩ => ⟨S_, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S_, .f32⟩
  | .hbm, ⟨32, _⟩ => ⟨S8x4096x1, .f32⟩
  | .hbm, ⟨33, _⟩ => ⟨S8x4096x1, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S8x4096x1, .f32⟩
  | .hbm, ⟨40, _⟩ => ⟨S8x4096x1024, .f32⟩
  | .hbm, ⟨41, _⟩ => ⟨S8x4096x1024, .f32⟩
  | .hbm, ⟨42, _⟩ => ⟨S1x1x1024, .f32⟩
  | .hbm, ⟨43, _⟩ => ⟨S8x4096x1024, .f32⟩
  | .hbm, ⟨44, _⟩ => ⟨S8x4096x1024, .f32⟩
  | .hbm, ⟨45, _⟩ => ⟨S1x1x1024, .f32⟩
  | .hbm, ⟨46, _⟩ => ⟨S8x4096x1024, .f32⟩
  | .hbm, ⟨47, _⟩ => ⟨S8x4096x1024, .f32⟩
  | .hbm, ⟨48, _⟩ => ⟨S8x4096x2816, .f32⟩
  | .hbm, ⟨49, _⟩ => ⟨S8x4096x2816, .f32⟩
  | .hbm, ⟨50, _⟩ => ⟨S8x4096x2816, .f32⟩
  | .hbm, ⟨51, _⟩ => ⟨S8x4096x2816, .f32⟩
  | .hbm, ⟨52, _⟩ => ⟨S_, .f32⟩
  | .hbm, ⟨53, _⟩ => ⟨S8x4096x2816, .f32⟩
  | .hbm, ⟨54, _⟩ => ⟨S8x4096x2816, .f32⟩
  | .hbm, ⟨55, _⟩ => ⟨S_, .f32⟩
  | .hbm, ⟨56, _⟩ => ⟨S8x4096x2816, .f32⟩
  | .hbm, ⟨57, _⟩ => ⟨S8x4096x2816, .f32⟩
  | .hbm, ⟨58, _⟩ => ⟨S8x4096x2816, .f32⟩
  | .hbm, ⟨59, _⟩ => ⟨S8x4096x2816, .f32⟩
  | .hbm, ⟨60, _⟩ => ⟨S8x4096x1024, .f32⟩
  | .hbm, ⟨61, _⟩ => ⟨S_, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S_, .f32⟩
  | .hbm, ⟨66, _⟩ => ⟨S8x4096, .f32⟩
  | .hbm, ⟨67, _⟩ => ⟨S8x4096x1, .f32⟩
  | .hbm, ⟨68, _⟩ => ⟨S_, .f32⟩
  | .hbm, ⟨69, _⟩ => ⟨S8x4096x1, .f32⟩
  | .hbm, ⟨70, _⟩ => ⟨S8x4096x1, .f32⟩
  | .hbm, ⟨71, _⟩ => ⟨S8x4096x1024, .f32⟩
  | .hbm, ⟨72, _⟩ => ⟨S8x4096x1024, .f32⟩
  | .hbm, ⟨73, _⟩ => ⟨S8x4096x1024, .f32⟩
  | .hbm, ⟨74, _⟩ => ⟨S_, .f32⟩
  | .hbm, ⟨75, _⟩ => ⟨S8x4096, .f32⟩
  | .hbm, ⟨76, _⟩ => ⟨S8x4096x1, .f32⟩
  | .hbm, ⟨77, _⟩ => ⟨S_, .f32⟩
  | .hbm, ⟨78, _⟩ => ⟨S8x4096x1, .f32⟩
  | .hbm, ⟨79, _⟩ => ⟨S8x4096x1, .f32⟩
  | .hbm, ⟨80, _⟩ => ⟨S8x4096x1024, .f32⟩
  | .hbm, ⟨81, _⟩ => ⟨S8x4096x1024, .f32⟩
  | .hbm, ⟨82, _⟩ => ⟨S_, .f32⟩
  | .hbm, ⟨83, _⟩ => ⟨S8x4096x1, .f32⟩
  | .hbm, ⟨84, _⟩ => ⟨S8x4096x1, .f32⟩
  | .hbm, ⟨85, _⟩ => ⟨S8x4096x1, .f32⟩
  | .hbm, ⟨86, _⟩ => ⟨S8x4096x1024, .f32⟩
  | .hbm, ⟨87, _⟩ => ⟨S8x4096x1024, .f32⟩
  | .hbm, ⟨88, _⟩ => ⟨S1x1x1024, .f32⟩
  | .hbm, ⟨89, _⟩ => ⟨S8x4096x1024, .f32⟩
  | .hbm, ⟨90, _⟩ => ⟨S8x4096x1024, .f32⟩
  | .hbm, ⟨91, _⟩ => ⟨S1x1x1024, .f32⟩
  | .hbm, ⟨92, _⟩ => ⟨S8x4096x1024, .f32⟩
  | .hbm, ⟨93, _⟩ => ⟨S8x4096x1024, .f32⟩
  | .hbm, ⟨94, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_8 : Ref sig .tc := ⟨.hbm, 74, rfl⟩
abbrev main_v46 : Ref sig .tc := ⟨.hbm, 75, rfl⟩
abbrev main_v47 : Ref sig .tc := ⟨.hbm, 76, rfl⟩
abbrev main_cst_9 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_10 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024x3080 : Shape := ⟨2, ![1024, 3080]⟩
abbrev S8 : Shape := ⟨1, ![8]⟩
abbrev S32768x1024 : Shape := ⟨2, ![32768, 1024]⟩
abbrev S1024x512 : Shape := ⟨2, ![1024, 512]⟩
abbrev S1024x8 : Shape := ⟨2, ![1024, 8]⟩
abbrev S_ : Shape := ⟨0, ![]⟩
abbrev S1024x120 : Shape := ⟨2, ![1024, 120]⟩
abbrev S1024x128 : Shape := ⟨2, ![1024, 128]⟩
abbrev S1024x3200 : Shape := ⟨2, ![1024, 3200]⟩
abbrev S120 : Shape := ⟨1, ![120]⟩
abbrev S128 : Shape := ⟨1, ![128]⟩
abbrev S1x128 : Shape := ⟨2, ![1, 128]⟩
abbrev S8x24x4096x128 : Shape := ⟨4, ![8, 24, 4096, 128]⟩
abbrev S32768x128 : Shape := ⟨2, ![32768, 128]⟩
abbrev S1024x1024 : Shape := ⟨2, ![1024, 1024]⟩
abbrev S1x24x1024x128 : Shape := ⟨4, ![1, 24, 1024, 128]⟩
abbrev S1x1x1024x128 : Shape := ⟨4, ![1, 1, 1024, 128]⟩
abbrev S128x128 : Shape := ⟨2, ![128, 128]⟩
abbrev S8x4096x128 : Shape := ⟨3, ![8, 4096, 128]⟩
abbrev S8x4096x8 : Shape := ⟨3, ![8, 4096, 8]⟩

abbrev nBuf : Space → Nat
  | .hbm => 24
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S1024x3080, .f32⟩
  | .hbm, ⟨2, _⟩ => ⟨S8, .f32⟩
  | .hbm, ⟨3, _⟩ => ⟨S32768x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x8, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x120, .f32⟩
  | .hbm, ⟨13, _⟩ => ⟨S1024x128, .f32⟩
  | .hbm, ⟨14, _⟩ => ⟨S1024x3200, .f32⟩
  | .hbm, ⟨15, _⟩ => ⟨S1024x3200, .bf16⟩
  | .hbm, ⟨16, _⟩ => ⟨S_, .f32⟩
  | .hbm, ⟨17, _⟩ => ⟨S120, .f32⟩
  | .hbm, ⟨18, _⟩ => ⟨S128, .f32⟩
  | .hbm, ⟨19, _⟩ => ⟨S1x128, .f32⟩
  | .hbm, ⟨20, _⟩ => ⟨S8x24x4096x128, .bf16⟩
  | .hbm, ⟨21, _⟩ => ⟨S32768x128, .f32⟩
  | .hbm, ⟨22, _⟩ => ⟨S8x4096x128, .f32⟩
  | .hbm, ⟨23, _⟩ => ⟨S8x4096x8, .f32⟩
  | .local _ .vmem, ⟨0, _⟩ => ⟨S1024x1024, .f32⟩
  | .local _ .vmem, ⟨1, _⟩ => ⟨S1024x1024, .f32⟩
  | .local _ .vmem, ⟨2, _⟩ => ⟨S1024x3200, .bf16⟩
  | .local _ .vmem, ⟨3, _⟩ => ⟨S1x128, .f32⟩
  | .local _ .vmem, ⟨4, _⟩ => ⟨S1x24x1024x128, .bf16⟩
  | .local _ .vmem, ⟨5, _⟩ => ⟨S1x24x1024x128, .bf16⟩
  | .local _ .vmem, ⟨6, _⟩ => ⟨S1024x128, .f32⟩
  | .local _ .vmem, ⟨7, _⟩ => ⟨S1024x128, .f32⟩
  | .local _ .vmem, ⟨8, _⟩ => ⟨S1x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x24x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S8x4096x1024 : Shape := ⟨3, ![8, 4096, 1024]⟩
abbrev S1024x3080 : Shape := ⟨2, ![1024, 3080]⟩
abbrev S8 : Shape := ⟨1, ![8]⟩
abbrev S8x4096x3080 : Shape := ⟨3, ![8, 4096, 3080]⟩
abbrev S8x4096x512 : Shape := ⟨3, ![8, 4096, 512]⟩
abbrev S8x4096x8 : Shape := ⟨3, ![8, 4096, 8]⟩
abbrev S_ : Shape := ⟨0, ![]⟩
abbrev S8x4096x3072 : Shape := ⟨3, ![8, 4096, 3072]⟩
abbrev S8x4096x24x128 : Shape := ⟨4, ![8, 4096, 24, 128]⟩
abbrev S8x24x4096x128 : Shape := ⟨4, ![8, 24, 4096, 128]⟩
abbrev S1x1x8 : Shape := ⟨3, ![1, 1, 8]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x3080, .f32⟩
  | .hbm, ⟨2, _⟩ => ⟨S8, .f32⟩
  | .hbm, ⟨3, _⟩ => ⟨S8x4096x3080, .f32⟩
  | .hbm, ⟨4, _⟩ => ⟨S8x4096x512, .f32⟩
  | .hbm, ⟨5, _⟩ => ⟨S8x4096x512, .f32⟩
  | .hbm, ⟨6, _⟩ => ⟨S8x4096x512, .f32⟩
  | .hbm, ⟨7, _⟩ => ⟨S8x4096x8, .f32⟩
  | .hbm, ⟨8, _⟩ => ⟨S8x4096x512, .f32⟩
  | .hbm, ⟨9, _⟩ => ⟨S8x4096x512, .f32⟩
  | .hbm, ⟨10, _⟩ => ⟨S8x4096x512, .f32⟩
  | .hbm, ⟨11, _⟩ => ⟨S_, .f32⟩
  | .hbm, ⟨12, _⟩ => ⟨S8x4096x512, .f32⟩
  | .hbm, ⟨13, _⟩ => ⟨S8x4096x512, .f32⟩
  | .hbm, ⟨14, _⟩ => ⟨S_, .f32⟩
  | .hbm, ⟨15, _⟩ => ⟨S8x4096x512, .f32⟩
  | .hbm, ⟨16, _⟩ => ⟨S8x4096x512, .f32⟩
  | .hbm, ⟨17, _⟩ => ⟨S8x4096x3072, .f32⟩
  | .hbm, ⟨18, _⟩ => ⟨S8x4096x24x128, .f32⟩
  | .hbm, ⟨19, _⟩ => ⟨S8x24x4096x128, .f32⟩
  | .hbm, ⟨20, _⟩ => ⟨S8x24x4096x128, .bf16⟩
  | .hbm, ⟨21, _⟩ => ⟨S1x1x8, .f32⟩
  | .hbm, ⟨22, _⟩ => ⟨S8x4096x8, .f32⟩
  | .hbm, ⟨23, _⟩ => ⟨S8x4096x8, .f32⟩
  | .hbm, ⟨24, _⟩ => ⟨S8x4096x8, .f32⟩
  | .hbm, ⟨25, _⟩ => ⟨S_, .f32⟩
  | .hbm, ⟨26, _⟩ => ⟨S8x4096x8, .f32⟩
  | .hbm, ⟨27, _⟩ => ⟨S8x4096x8, .f32⟩
  | .hbm, ⟨28, _⟩ => ⟨S8x4096x8, .f32⟩
  | .hbm, ⟨29, _⟩ => ⟨S8x4096x8, .f32⟩
  | .hbm, ⟨30, _⟩ => ⟨S8x4096x8, .i1⟩
  | .hbm, ⟨31, _⟩ => ⟨S8x4096x8, .f32⟩
  | .hbm, ⟨32, _⟩ => ⟨S8x4096x8, .f32⟩
  | .hbm, ⟨33, _⟩ => ⟨S8x4096x8, .f32⟩
  | .hbm, ⟨34, _⟩ => ⟨S8x4096x8, .f32⟩
  | .hbm, ⟨35, _⟩ => ⟨S8x4096x8, .f32⟩
  | .hbm, ⟨36, _⟩ => ⟨S8x4096x8, .f32⟩
  | .hbm, ⟨37, _⟩ => ⟨S8x4096x8, .f32⟩
  | .hbm, ⟨38, _⟩ => ⟨S8x4096x8, .f32⟩
  | .hbm, ⟨39, _⟩ => ⟨S8x4096x8, .f32⟩
  | .hbm, ⟨40, _⟩ => ⟨S_, .f32⟩
  | .hbm, ⟨41, _⟩ => ⟨S_, .f32⟩
  | .hbm, ⟨42, _⟩ => ⟨S8x4096x8, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v19 : Ref sig .tc := ⟨.hbm, 39, rfl⟩
abbrev main_call1_call0_cst : Ref sig .tc := ⟨.hbm, 40, rfl⟩
abbrev main_call1_call0_v0 : Ref sig .tc := ⟨.hbm, 41, rfl⟩
abbrev main_v20 : Ref sig .tc := ⟨.hbm, 42, rfl⟩

abbrev nD : Nat := 1
abbrev τ : Topo := Topo.v7x

variable {F : FTy → Type} [FloatOps F]
-- ==== Kernel1.lean ====
abbrev S8x4096x1024 : Shape := ⟨3, ![8, 4096, 1024]⟩
abbrev S1024x1440 : Shape := ⟨2, ![1024, 1440]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S32768x1024 : Shape := ⟨2, ![32768, 1024]⟩
abbrev S1024x384 : Shape := ⟨2, ![1024, 384]⟩
abbrev S1024x256 : Shape := ⟨2, ![1024, 256]⟩
abbrev S1024x32 : Shape := ⟨2, ![1024, 32]⟩
abbrev S1024x512 : Shape := ⟨2, ![1024, 512]⟩
abbrev S1024x128 : Shape := ⟨2, ![1024, 128]⟩
abbrev S1024x2x4x64 : Shape := ⟨4, ![1024, 2, 4, 64]⟩
abbrev S1024x4x2x64 : Shape := ⟨4, ![1024, 4, 2, 64]⟩
abbrev S_ : Shape := ⟨0, ![]⟩
abbrev S1024x64 : Shape := ⟨2, ![1024, 64]⟩
abbrev S1024x16 : Shape := ⟨2, ![1024, 16]⟩
abbrev S1024x1536 : Shape := ⟨2, ![1024, 1536]⟩
abbrev S384x8x96 : Shape := ⟨3, ![384, 8, 96]⟩
abbrev S384x8x16 : Shape := ⟨3, ![384, 8, 16]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S256x512 : Shape := ⟨2, ![256, 512]⟩
abbrev S256x1536 : Shape := ⟨2, ![256, 1536]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x32 : Shape := ⟨2, ![4096, 32]⟩
abbrev S4096x128 : Shape := ⟨2, ![4096, 128]⟩
abbrev S1x384 : Shape := ⟨2, ![1, 384]⟩
abbrev S1x256 : Shape := ⟨2, ![1, 256]⟩
abbrev S8x8x4096x128 : Shape := ⟨4, ![8, 8, 4096, 128]⟩
abbrev S8x4x4096x128 : Shape := ⟨4, ![8, 4, 4096, 128]⟩
abbrev S8x1x4096x128 : Shape := ⟨4, ![8, 1, 4096, 128]⟩
abbrev S1024x1024 : Shape := ⟨2, ![1024, 1024]⟩
abbrev S1x8x1024x128 : Shape := ⟨4, ![1, 8, 1024, 128]⟩
abbrev S1x4x1024x128 : Shape := ⟨4, ![1, 4, 1024, 128]⟩
abbrev S1x1x1024x128 : Shape := ⟨4, ![1, 1, 1024, 128]⟩
abbrev S1024 : Shape := ⟨1, ![1024]⟩
abbrev S1024x1 : Shape := ⟨2, ![1024, 1]⟩

abbrev nBuf : Space → Nat
  | .hbm => 86
  | .vmem => 27
  | .smem => 0
  | _ => 0

abbrev bufTy : (tb : Table) → Fin (tcTables nBuf tb) → BufTy
  | .hbm, ⟨0, _⟩ => ⟨S8x4096x1024, .f32⟩
  | .hbm, ⟨1, _⟩ => ⟨S1024x1440, .f32⟩
  | .hbm, ⟨2, _⟩ => ⟨S384, .f32⟩
  | .hbm, ⟨3, _⟩ => ⟨S384x768, .f32⟩
  | .hbm, ⟨4, _⟩ => ⟨S256, .f32⟩
  | .hbm, ⟨5, _⟩ => ⟨S256x1024, .f32⟩
  | .hbm, ⟨6, _⟩ => ⟨S32768x1024, .f32⟩
  | .hbm, ⟨7, _⟩ => ⟨S1024x384, .f32⟩
  | .hbm, ⟨8, _⟩ => ⟨S1024x256, .f32⟩
  | .hbm, ⟨9, _⟩ => ⟨S1024x32, .f32⟩
  | .hbm, ⟨10, _⟩ => ⟨S1024x512, .f32⟩
  | .hbm, ⟨11, _⟩ => ⟨S1024x128, .f32⟩
  | .hbm, ⟨12, _⟩ => ⟨S1024x128, .f32⟩
  | .hbm, ⟨13, _⟩ => ⟨S1024x2x4x64, .f32⟩
  | .hbm, ⟨14, _⟩ => ⟨S1024x4x2x64, .f32⟩
  | .hbm, ⟨15, _⟩ => ⟨S1024x512, .f32⟩
  | .hbm, ⟨16, _⟩ => ⟨S_, .f32⟩
  | .hbm, ⟨17, _⟩ => ⟨S1024x64, .f32⟩
  | .hbm, ⟨18, _⟩ => ⟨S1024x16, .f32⟩
  | .hbm, ⟨19, _⟩ => ⟨S1024x16, .f32⟩
  | .hbm, ⟨20, _⟩ => ⟨S1024x128, .f32⟩
  | .hbm, ⟨21, _⟩ => ⟨S1024x1536, .f32⟩
  | .hbm, ⟨22, _⟩ => ⟨S1024x1536, .bf16⟩
  | .hbm, ⟨23, _⟩ => ⟨S384x8x96, .f32⟩
  | .hbm, ⟨24, _⟩ => ⟨S384x8x16, .f32⟩
  | .hbm, ⟨25, _⟩ => ⟨S384x8x16, .f32⟩
  | .hbm, ⟨26, _⟩ => ⟨S384x8x128, .f32⟩
  | .hbm, ⟨27, _⟩ => ⟨S384x1024, .f32⟩
  | .hbm, ⟨28, _⟩ => ⟨S384x1024, .bf16⟩
  | .hbm, ⟨29, _⟩ => ⟨S256x8x128, .f32⟩
  | .hbm, ⟨30, _⟩ => ⟨S256x8x64, .f32⟩
  | .hbm, ⟨31, _⟩ => ⟨S256x8x64, .f32⟩
  | .hbm, ⟨32, _⟩ => ⟨S_, .f32⟩
  | .hbm, ⟨33, _⟩ => ⟨S256x8x64, .f32⟩
  | .hbm, ⟨34, _⟩ => ⟨S256x8x128, .f32⟩
  | .hbm, ⟨35, _⟩ => ⟨S256x1024, .f32⟩
  | .hbm, ⟨36, _⟩ => ⟨S256x8x64, .f32⟩
  | .hbm, ⟨37, _⟩ => ⟨S256x512, .f32⟩
  | .hbm, ⟨38, _⟩ => ⟨S256x1536, .f32⟩
  | .hbm, ⟨39, _⟩ => ⟨S256x1536, .bf16⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S4096, .f32⟩
  | .hbm, ⟨55, _⟩ => ⟨S4096x1, .f32⟩
  | .hbm, ⟨56, _⟩ => ⟨S1x16, .f32⟩
  | .hbm, ⟨57, _⟩ => ⟨S4096x16, .f32⟩
  | .hbm, ⟨58, _⟩ => ⟨S4096x16, .f32⟩
  | .hbm, ⟨59, _⟩ => ⟨S4096x16, .f32⟩
  | .hbm, ⟨60, _⟩ => ⟨S4096x16, .f32⟩
  | .hbm, ⟨61, _⟩ => ⟨S4096x16, .f32⟩
  | .hbm, ⟨62, _⟩ => ⟨S_, .f32⟩
  | .hbm, ⟨63, _⟩ => ⟨S4096x64, .f32⟩
  | .hbm, ⟨64, _⟩ => ⟨S_, .f32⟩
  | .hbm, ⟨65, _⟩ => ⟨S4096x32, .f32⟩
  | .hbm, ⟨66, _⟩ => ⟨S_, .f32⟩
  | .hbm, ⟨67, _⟩ => ⟨S4096x64, .f32⟩
  | .hbm, ⟨68, _⟩ => ⟨S4096x128, .f32⟩
  | .hbm, ⟨69, _⟩ => ⟨S4096x16, .f32⟩
  | .hbm, ⟨70, _⟩ => ⟨S4096x128, .f32⟩
  | .hbm, ⟨71, _⟩ => ⟨S4096x128, .f32⟩
  | .hbm, ⟨72, _⟩ => ⟨S_, .f32⟩
  | .hbm, ⟨73, _⟩ => ⟨S4096x128, .f32⟩
  | .hbm, ⟨74, _⟩ => ⟨S4096x128, .f32⟩
  | .hbm, ⟨75, _⟩ => ⟨S_, .f32⟩
  | .hbm, ⟨76, _⟩ => ⟨S4096x128, .f32⟩
  | .hbm, ⟨77, _⟩ => ⟨S4096x128, .f32⟩
  | .hbm, ⟨78, _⟩ => ⟨S1x384, .f32⟩
  | .hbm, ⟨79, _⟩ => ⟨S1x256, .f32⟩
  | .hbm, ⟨80, _⟩ => ⟨S8x8x4096x128, .bf16⟩
  | .hbm, ⟨81, _⟩ => ⟨S8x8x4096x128, .bf16⟩
  | .hbm, ⟨82, _⟩ => ⟨S8x4x4096x128, .bf16⟩
  | .hbm, ⟨83, _⟩ => ⟨S8x4x4096x128, .bf16⟩
  | .hbm, ⟨84, _⟩ => ⟨S8x1x4096x128, .bf16⟩
  | .hbm, ⟨85, _⟩ => ⟨S8x1x4096x128, .bf16⟩
  | .local _ .vmem, ⟨0, _⟩ => ⟨S1024x1024, .f32⟩
  | .local _ .vmem, ⟨1, _⟩ => ⟨S1024x1024, .f32⟩
  | .local _ .vmem, ⟨2, _⟩ => ⟨S1024x1536, .bf16⟩
  | .local _ .vmem, ⟨3, _⟩ => ⟨S1x384, .f32⟩
  | .local _ .vmem, ⟨4, _⟩ => ⟨S384x1024, .bf16⟩
  | .local _ .vmem, ⟨5, _⟩ => ⟨S1x256, .f32⟩
  | .local _ .vmem, ⟨6, _⟩ => ⟨S256x1536, .bf16⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1x8x1024x128, .bf16⟩
  | .local _ .vmem, ⟨16, _⟩ => ⟨S1x8x1024x128, .bf16⟩
  | .local _ .vmem, ⟨17, _⟩ => ⟨S1x8x1024x128, .bf16⟩
  | .local _ .vmem, ⟨18, _⟩ => ⟨S1x8x1024x128, .bf16⟩
  | .local _ .vmem, ⟨19, _⟩ => ⟨S1x4x1024x128, .bf16⟩
  | .local _ .vmem, ⟨20, _⟩ => ⟨S1x4x1024x128, .bf16⟩
  | .local _ .vmem, ⟨21, _⟩ => ⟨S1x4x1024x128, .bf16⟩
  | .local _ .vmem, ⟨22, _⟩ => ⟨S1x4x1024x128, .bf16⟩
  | .local _ .vmem, ⟨23, _⟩ => ⟨S1x1x1024x128, .bf16⟩
  | .local _ .vmem, ⟨24, _⟩ => ⟨S1x1x1024x128, .bf16⟩
  | .local _ .vmem, ⟨25, _⟩ => ⟨S1x1x1024x128, .bf16⟩
  | .local _ .vmem, ⟨26, _⟩ => ⟨S1x1x1024x128, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_0 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_1 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_5 : Ref sig .tc := ⟨.hbm, 62, rfl⟩
abbrev main_v50 : Ref sig .tc := ⟨.hbm, 63, rfl⟩
abbrev main_cst_6 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63_0 : Ref sig .tc := ⟨.hbm, 80, rfl⟩
abbrev main_v63_1 : Ref sig .tc := ⟨.hbm, 81, rfl⟩
abbrev main_v63_2 : Ref sig .tc := ⟨.hbm, 82, rfl⟩
abbrev main_v63_3 : Ref sig .tc := ⟨.hbm, 83, rfl⟩
abbrev main_v63_4 : Ref sig .tc := ⟨.hbm, 84, rfl⟩
abbrev main_v63_5 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_12 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_14 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_15 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x1024x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference1Ideal.lean ====
abbrev S8x4096x1024 : Shape := ⟨3, ![8, 4096, 1024]⟩
abbrev S1024x1440 : Shape := ⟨2, ![1024, 1440]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S8x4096x1440 : Shape := ⟨3, ![8, 4096, 1440]⟩
abbrev S8x4096x384 : Shape := ⟨3, ![8, 4096, 384]⟩
abbrev S8x4096x256 : Shape := ⟨3, ![8, 4096, 256]⟩
abbrev S8x4096x32 : Shape := ⟨3, ![8, 4096, 32]⟩
abbrev S8x4096x512 : Shape := ⟨3, ![8, 4096, 512]⟩
abbrev S8x4096x128 : Shape := ⟨3, ![8, 4096, 128]⟩
abbrev S8x4096 : Shape := ⟨2, ![8, 4096]⟩
abbrev S8x4096x1 : Shape := ⟨3, ![8, 4096, 1]⟩
abbrev S1x1x384 : Shape := ⟨3, ![1, 1, 384]⟩
abbrev S8x4096x768 : Shape := ⟨3, ![8, 4096, 768]⟩
abbrev S8x4096x8x96 : Shape := ⟨4, ![8, 4096, 8, 96]⟩
abbrev S8x4096x8x32 : Shape := ⟨4, ![8, 4096, 8, 32]⟩
abbrev S1x4096x1x16 : Shape := ⟨4, ![1, 4096, 1, 16]⟩
abbrev S8x4096x8x16 : Shape := ⟨4, ![8, 4096, 8, 16]⟩
abbrev S1x1x256 : Shape := ⟨3, ![1, 1, 256]⟩
abbrev S8x4096x8x128 : Shape := ⟨4, ![8, 4096, 8, 128]⟩
abbrev S1x4096x16 : Shape := ⟨3, ![1, 4096, 16]⟩
abbrev S8x4096x16 : Shape := ⟨3, ![8, 4096, 16]⟩
abbrev S8x4096x1x32 : Shape := ⟨4, ![8, 4096, 1, 32]⟩
abbrev S8x4096x8x64 : Shape := ⟨4, ![8, 4096, 8, 64]⟩
abbrev S8x4096x4x128 : Shape := ⟨4, ![8, 4096, 4, 128]⟩
abbrev S8x4096x2x4x64 : Shape := ⟨5, ![8, 4096, 2, 4, 64]⟩
abbrev S8x4096x4x2x64 : Shape := ⟨5, ![8, 4096, 4, 2, 64]⟩
abbrev S8x8x4096x128 : Shape := ⟨4, ![8, 8, 4096, 128]⟩
abbrev S8x4x4096x128 : Shape := ⟨4, ![8, 4, 4096, 128]⟩
abbrev S8x4096x1x128 : Shape := ⟨4, ![8, 4096, 1, 128]⟩
abbrev S8x1x4096x128 : Shape := ⟨4, ![8, 1, 4096, 128]⟩

abbrev nBuf : Space → Nat
  | .hbm => 135
  | .vmem => 0
  | .smem => 0
  | _ => 0

abbrev hbmTy0_0 (i : Nat) : BufTy := match i % 128 with
  | 0 => ⟨S8x4096x1024, .f32⟩
  | 1 => ⟨S1024x1440, .f32⟩
  | 2 => ⟨S384, .f32⟩
  | 3 => ⟨S384x768, .f32⟩
  | 4 => ⟨S256, .f32⟩
  | 5 => ⟨S256x1024, .f32⟩
  | 6 => ⟨S16, .f32⟩
  | 7 => ⟨S_, .f32⟩
  | 8 => ⟨S16, .f32⟩
  | 9 => ⟨S16, .f32⟩
  | 10 => ⟨S_, .f32⟩
  | 11 => ⟨S16, .f32⟩
  | 12 => ⟨S16, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S4096, .f32⟩
  | 21 => ⟨S4096x1, .f32⟩
  | 22 => ⟨S1x16, .f32⟩
  | 23 => ⟨S4096x16, .f32⟩
  | 24 => ⟨S4096x16, .f32⟩
  | 25 => ⟨S4096x16, .f32⟩
  | 26 => ⟨S4096x16, .f32⟩
  | 27 => ⟨S4096x16, .f32⟩
  | 28 => ⟨S8x4096x1440, .f32⟩
  | 29 => ⟨S8x4096x384, .f32⟩
  | 30 => ⟨S8x4096x256, .f32⟩
  | 31 => ⟨S8x4096x32, .f32⟩
  | 32 => ⟨S8x4096x512, .f32⟩
  | 33 => ⟨S8x4096x128, .f32⟩
  | 34 => ⟨S8x4096x128, .f32⟩
  | 35 => ⟨S8x4096x384, .f32⟩
  | 36 => ⟨S_, .f32⟩
  | 37 => ⟨S8x4096, .f32⟩
  | 38 => ⟨S8x4096x1, .f32⟩
  | 39 => ⟨S_, .f32⟩
  | 40 => ⟨S8x4096x1, .f32⟩
  | 41 => ⟨S8x4096x1, .f32⟩
  | 42 => ⟨S_, .f32⟩
  | 43 => ⟨S8x4096x1, .f32⟩
  | 44 => ⟨S8x4096x1, .f32⟩
  | 45 => ⟨S8x4096x1, .f32⟩
  | 46 => ⟨S8x4096x384, .f32⟩
  | 47 => ⟨S8x4096x384, .f32⟩
  | 48 => ⟨S1x1x384, .f32⟩
  | 49 => ⟨S8x4096x384, .f32⟩
  | 50 => ⟨S8x4096x384, .f32⟩
  | 51 => ⟨S8x4096x768, .f32⟩
  | 52 => ⟨S8x4096x8x96, .f32⟩
  | 53 => ⟨S8x4096x8x32, .f32⟩
  | 54 => ⟨S1x4096x1x16, .f32⟩
  | 55 => ⟨S1x4096x1x16, .f32⟩
  | 56 => ⟨S8x4096x8x16, .f32⟩
  | 57 => ⟨S8x4096x8x16, .f32⟩
  | 58 => ⟨S8x4096x8x16, .f32⟩
  | 59 => ⟨S8x4096x8x16, .f32⟩
  | 60 => ⟨S8x4096x8x16, .f32⟩
  | 61 => ⟨S8x4096x8x16, .f32⟩
  | 62 => ⟨S8x4096x8x16, .f32⟩
  | 63 => ⟨S8x4096x8x16, .f32⟩
  | 64 => ⟨S8x4096x8x16, .f32⟩
  | 65 => ⟨S8x4096x8x16, .f32⟩
  | 66 => ⟨S8x4096x8x16, .f32⟩
  | 67 => ⟨S8x4096x8x16, .f32⟩
  | 68 => ⟨S8x4096x8x32, .f32⟩
  | 69 => ⟨S8x4096x256, .f32⟩
  | 70 => ⟨S_, .f32⟩
  | 71 => ⟨S8x4096, .f32⟩
  | 72 => ⟨S8x4096x1, .f32⟩
  | 73 => ⟨S_, .f32⟩
  | 74 => ⟨S8x4096x1, .f32⟩
  | 75 => ⟨S8x4096x1, .f32⟩
  | 76 => ⟨S_, .f32⟩
  | 77 => ⟨S8x4096x1, .f32⟩
  | 78 => ⟨S8x4096x1, .f32⟩
  | 79 => ⟨S8x4096x1, .f32⟩
  | 80 => ⟨S8x4096x256, .f32⟩
  | 81 => ⟨S8x4096x256, .f32⟩
  | 82 => ⟨S1x1x256, .f32⟩
  | 83 => ⟨S8x4096x256, .f32⟩
  | 84 => ⟨S8x4096x256, .f32⟩
  | 85 => ⟨S8x4096x1024, .f32⟩
  | 86 => ⟨S8x4096x8x128, .f32⟩
  | 87 => ⟨S1x4096x16, .f32⟩
  | 88 => ⟨S1x4096x16, .f32⟩
  | 89 => ⟨S8x4096x16, .f32⟩
  | 90 => ⟨S8x4096x16, .f32⟩
  | 91 => ⟨S8x4096x16, .f32⟩
  | 92 => ⟨S8x4096x16, .f32⟩
  | 93 => ⟨S8x4096x16, .f32⟩
  | 94 => ⟨S8x4096x16, .f32⟩
  | 95 => ⟨S8x4096x16, .f32⟩
  | 96 => ⟨S8x4096x16, .f32⟩
  | 97 => ⟨S8x4096x16, .f32⟩
  | 98 => ⟨S8x4096x16, .f32⟩
  | 99 => ⟨S8x4096x16, .f32⟩
  | 100 => ⟨S8x4096x16, .f32⟩
  | 101 => ⟨S8x4096x32, .f32⟩
  | 102 => ⟨S8x4096x1x32, .f32⟩
  | 103 => ⟨S8x4096x8x32, .f32⟩
  | 104 => ⟨S_, .f32⟩
  | 105 => ⟨S8x4096x8x32, .f32⟩
  | 106 => ⟨S8x4096x8x64, .f32⟩
  | 107 => ⟨S8x4096x8x128, .f32⟩
  | 108 => ⟨S_, .f32⟩
  | 109 => ⟨S8x4096x8x128, .f32⟩
  | 110 => ⟨S8x4096x8x128, .f32⟩
  | 111 => ⟨S8x4096x8x64, .f32⟩
  | 112 => ⟨S8x4096x8x128, .f32⟩
  | 113 => ⟨S8x4096x8x64, .f32⟩
  | 114 => ⟨S8x4096x4x128, .f32⟩
  | 115 => ⟨S8x4096x2x4x64, .f32⟩
  | 116 => ⟨S8x4096x4x2x64, .f32⟩
  | 117 => ⟨S8x4096x4x128, .f32⟩
  | 118 => ⟨S_, .f32⟩
  | 119 => ⟨S8x4096x4x128, .f32⟩
  | 120 => ⟨S8x4096x4x128, .f32⟩
  | 121 => ⟨S8x8x4096x128, .f32⟩
  | 122 => ⟨S8x8x4096x128, .bf16⟩
  | 123 => ⟨S8x8x4096x128, .f32⟩
  | 124 => ⟨S8x8x4096x128, .bf16⟩
  | 125 => ⟨S8x4x4096x128, .f32⟩
  | 126 => ⟨S8x4x4096x128, .bf16⟩
  | 127 => ⟨S8x4x4096x128, .f32⟩
  | _ => ⟨S8x4096x1024, .f32⟩

abbrev hbmTy0_1 (i : Nat) : BufTy := match i % 128 with
  | 0 => ⟨S8x4x4096x128, .bf16⟩
  | 1 => ⟨S8x4096x1x128, .f32⟩
  | 2 => ⟨S8x1x4096x128, .f32⟩
  | 3 => ⟨S8x1x4096x128, .bf16⟩
  | 4 => ⟨S8x4096x1x128, .f32⟩
  | 5 => ⟨S8x1x4096x128, .f32⟩
  | 6 => ⟨S8x1x4096x128, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_6 : Ref sig .tc := ⟨.hbm, 70, rfl⟩
abbrev main_v57 : Ref sig .tc := ⟨.hbm, 71, rfl⟩
abbrev main_v58 : Ref sig .tc := ⟨.hbm, 72, rfl⟩
abbrev main_cst_7 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_cst_9 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_cst_10 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_cst_11 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩

abbrev nD : Nat := 1
abbrev τ : Topo := Topo.v7x

variable {F : FTy → Type} [FloatOps F]
-- ==== Proof.FfnRow.lean ====
/- One token of the output projection and the feed-forward part, over the extended reals: the functions of one row
   that both programs of the second pair compute for every token. -/
module

public import Idealize.ShloMosaic.PureOps.Ideal

@[expose] public section

noncomputable section

namespace Cert.FfnRow

open Idealize.ShloMosaic

/-- The residual's weight, the row's length and the norm's small constant, as their 32-bit patterns denote them. -/
abbrev alpha : EReal := Ideal.ofBits .f32 0x3FB504F3#32
abbrev len : EReal := Ideal.ofBits .f32 0x44800000#32
abbrev eps : EReal := Ideal.ofBits .f32 0x3727C5AC#32

/-- A row's mean. -/
def mean (v : Fin 1024 → EReal) : EReal := Ideal.div (∑ k, v k) len

/-- A row centred. -/
def centred (v : Fin 1024 → EReal) (d : Fin 1024) : EReal := v d - mean v

/-- A row centred and divided by its deviation. -/
def normed (v : Fin 1024 → EReal) (d : Fin 1024) : EReal :=
  centred v d * Ideal.rsqrt (Ideal.div (∑ k, centred v k * centred v k) len + eps)

/-- The residual with the output projection of the two branches' heads. -/
def mixed (x : Fin 1024 → EReal) (oa ob : Fin 512 → EReal) (wa wb : Fin 512 → Fin 1024 → EReal) (d : Fin 1024) : EReal :=
  alpha * x d + ((∑ k, oa k * wa k d) + ∑ k, ob k * wb k d)

/-- A normed row scaled and shifted. -/
def affine (v g b : Fin 1024 → EReal) (d : Fin 1024) : EReal := normed v d * g d + b d

/-- A row times a weight matrix. -/
def proj (x : Fin 1024 → EReal) (w : Fin 1024 → Fin 2816 → EReal) (f : Fin 2816) : EReal := ∑ d, x d * w d f

/-- The gated hidden row. -/
def hidden (x : Fin 1024 → EReal) (wg wu : Fin 1024 → Fin 2816 → EReal) (f : Fin 2816) : EReal :=
  proj x wg f * Ideal.logistic (proj x wg f) * proj x wu f

/-- The residual with the feed-forward part. -/
def fed (x : Fin 1024 → EReal) (wg wu : Fin 1024 → Fin 2816 → EReal) (wd : Fin 2816 → Fin 1024 → EReal)
    (d : Fin 1024) : EReal :=
  alpha * x d + ∑ f, hidden x wg wu f * wd f d

end Cert.FfnRow

end
-- ==== Proof.FfnBlock.lean ====
/- What one block of the feed-forward kernel computes: row `r` of the block it stores is the row function of row `r`
   of its input blocks. -/
module

public import proofs.«01_k».proof.Proof.Gen.Kernel2Ideal.Skeleton
public import proofs.«01_k».proof.Proof.FfnRow
public import Idealize.ShloMosaic.Lib.Pointwise

@[expose] public section

set_option maxRecDepth 16384

noncomputable section

namespace Cert.FfnBlock

open Idealize.ShloMosaic Idealize.ShloMosaic.TcCoe Idealize.SL.Sem
open Cert.Kernel2Ideal Cert.Kernel2Ideal.Gen Cert.FfnRow

/-- The first norm's centred and divided rows. -/
theorem first (oa : FVec Ideal S512x512 .bf16) (wa : FVec Ideal S512x1024 .bf16) (ob : FVec Ideal S512x512 .bf16)
    (wb : FVec Ideal S512x1024 .bf16) (x : FVec Ideal S512x1024 .f32) (r : Fin 512) (d : Fin 1024) :
    k0_pay3 (F := Ideal) oa wa ob wb x (ix2 r d)
      = normed (mixed (fun d => x (ix2 r d)) (fun k => oa (ix2 r k)) (fun k => ob (ix2 r k)) (fun k d => wa (ix2 k d))
          (fun k d => wb (ix2 k d))) d := by
  pointwise [k0_pay3]
  rfl

/-- The second norm's centred and divided rows, from the first norm's. -/
theorem second (b g : FVec Ideal S1x1024 .f32) (n : FVec Ideal S512x1024 .f32) (wg wu : FVec Ideal S1024x2816 .bf16)
    (wd : FVec Ideal S2816x1024 .bf16) (r : Fin 512) (d : Fin 1024) :
    k0_pay6 (F := Ideal) (k0_pay2 b) n (k0_pay4 g) wg wu wd (ix2 r d)
      = normed (fed (fun d => n (ix2 r d) * g (ix2 0 d) + b (ix2 0 d)) (fun d f => wg (ix2 d f)) (fun d f => wu (ix2 d f))
          (fun f d => wd (ix2 f d))) d := by
  pointwise [k0_pay6, k0_pay2, k0_pay4]
  rfl

end Cert.FfnBlock

end
-- ==== Proof.FfnArray.lean ====
/- What the feed-forward kernel leaves in its result: every row is the row function of the token's arguments. -/
module

public import proofs.«01_k».proof.Proof.Gen.Kernel2Ideal.Value
public import proofs.«01_k».proof.Proof.FfnBlock
public import Idealize.ShloMosaic.Lib.Pipeline.ValueKit

@[expose] public section

set_option maxRecDepth 16384

noncomputable section

namespace Cert.FfnArray

open Idealize.ShloMosaic Idealize.ShloMosaic.TcCoe Idealize.SL.Sem
open Idealize.ShloMosaic.Pipeline (Dat)
open Cert.Kernel2Ideal Cert.Kernel2Ideal.Gen Cert.FfnRow

variable (m : (ℓ : Loc nD τ sig) → Buf (Elt Ideal) ℓ)

/-- One row of the result from the arguments of the call. -/
def row (x : FVec Ideal S8x4096x1024 .f32) (oa ob : FVec Ideal S8x4096x512 .bf16) (w : FVec Ideal S1024x1024 .f32)
    (g1 b1 : FVec Ideal S1024 .f32) (wg wu : FVec Ideal S1024x2816 .f32) (wd : FVec Ideal S2816x1024 .f32)
    (g2 b2 : FVec Ideal S1024 .f32) (b : Fin 8) (s : Fin 4096) : Fin 1024 → EReal :=
  affine
    (fed
      (affine
        (mixed (fun d => x (ix3 b s d)) (fun k => oa (ix3 b s k)) (fun k => ob (ix3 b s k))
          (fun k d => w (ix2 ⟨k.val, by omega⟩ d)) (fun k d => w (ix2 ⟨512 + k.val, by omega⟩ d)))
        (fun d => g1 (ix1 d)) (fun d => b1 (ix1 d)))
      (fun d f => wg (ix2 d f)) (fun d f => wu (ix2 d f)) (fun f d => wd (ix2 f d)))
    (fun d => g2 (ix1 d)) (fun d => b2 (ix1 d))

/-- The whole result. -/
def result (x : FVec Ideal S8x4096x1024 .f32) (oa ob : FVec Ideal S8x4096x512 .bf16) (w : FVec Ideal S1024x1024 .f32)
    (g1 b1 : FVec Ideal S1024 .f32) (wg wu : FVec Ideal S1024x2816 .f32) (wd : FVec Ideal S2816x1024 .f32)
    (g2 b2 : FVec Ideal S1024 .f32) : FVec Ideal S32768x1024 .f32 := fun i =>
  row x oa ob w g1 b1 wg wu wd g2 b2 ⟨(i 0).val / 4096, by have h : (i 0).val < 32768 := (i 0).isLt; omega⟩
    ⟨(i 0).val % 4096, by omega⟩ (i 1)

/-- Where each window's block lies. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![t.val, 0] :=
  (by decide +kernel : ∀ t : Fin grid0.N, _)

/-- The batch entry and the position of a block's row. -/
def batch (t : Fin cfg0.N) (r : Fin 512) : Fin 8 :=
  ⟨(t.val * 512 + r.val) / 4096, by have h : t.val < 64 := t.isLt; omega⟩

def pos (t : Fin cfg0.N) (r : Fin 512) : Fin 4096 := ⟨(t.val * 512 + r.val) % 4096, by omega⟩

/-- What each window's block holds, by the arguments. -/
theorem read0 (c : Dev nD) (t : Fin cfg0.N) (r : Fin 512) (d : Fin 1024) :
    iblk m c 0 t (ix2 r d) = m ((c : Thread nD τ).loc main_arg0) (ix3 (batch t r) (pos t r) d) := by
  blk_simp [iblk]
  entry_read
  pointwise
  blk_ext [idx t, batch, pos]

theorem read1 (c : Dev nD) (t : Fin cfg0.N) (r : Fin 512) (d : Fin 512) :
    iblk m c 1 t (ix2 r d) = m ((c : Thread nD τ).loc main_arg1) (ix3 (batch t r) (pos t r) d) := by
  blk_simp [iblk]
  entry_read
  pointwise
  blk_ext [idx t, batch, pos]

theorem read2 (c : Dev nD) (t : Fin cfg0.N) (r : Fin 512) (d : Fin 512) :
    iblk m c 2 t (ix2 r d) = m ((c : Thread nD τ).loc main_arg2) (ix3 (batch t r) (pos t r) d) := by
  blk_simp [iblk]
  entry_read
  pointwise
  blk_ext [idx t, batch, pos]

theorem read3 (c : Dev nD) (t : Fin cfg0.N) (r : Fin 512) (d : Fin 1024) :
    iblk m c 3 t (ix2 r d) = m ((c : Thread nD τ).loc main_arg3) (ix2 ⟨r.val, by omega⟩ d) := by
  blk_simp [iblk]
  entry_read
  pointwise
  blk_ext [idx t, batch, pos]

theorem read4 (c : Dev nD) (t : Fin cfg0.N) (r : Fin 512) (d : Fin 1024) :
    iblk m c 4 t (ix2 r d) = m ((c : Thread nD τ).loc main_arg3) (ix2 ⟨512 + r.val, by omega⟩ d) := by
  blk_simp [iblk]
  entry_read
  pointwise
  blk_ext [idx t, batch, pos]

theorem read5 (c : Dev nD) (t : Fin cfg0.N) (r : Fin 1) (d : Fin 1024) :
    iblk m c 5 t (ix2 r d) = m ((c : Thread nD τ).loc main_arg4) (ix1 d) := by
  blk_simp [iblk]
  entry_read
  pointwise
  blk_ext [idx t, batch, pos]

theorem read6 (c : Dev nD) (t : Fin cfg0.N) (r : Fin 1) (d : Fin 1024) :
    iblk m c 6 t (ix2 r d) = m ((c : Thread nD τ).loc main_arg5) (ix1 d) := by
  blk_simp [iblk]
  entry_read
  pointwise
  blk_ext [idx t, batch, pos]

theorem read10 (c : Dev nD) (t : Fin cfg0.N) (r : Fin 1) (d : Fin 1024) :
    iblk m c 10 t (ix2 r d) = m ((c : Thread nD τ).loc main_arg9) (ix1 d) := by
  blk_simp [iblk]
  entry_read
  pointwise
  blk_ext [idx t, batch, pos]

theorem read11 (c : Dev nD) (t : Fin cfg0.N) (r : Fin 1) (d : Fin 1024) :
    iblk m c 11 t (ix2 r d) = m ((c : Thread nD τ).loc main_arg10) (ix1 d) := by
  blk_simp [iblk]
  entry_read
  pointwise
  blk_ext [idx t, batch, pos]

theorem read7 (c : Dev nD) (t : Fin cfg0.N) (r : Fin 1024) (d : Fin 2816) :
    iblk m c 7 t (ix2 r d) = m ((c : Thread nD τ).loc main_arg6) (ix2 r d) := by
  blk_ext [iblk, V, idx t]

theorem read8 (c : Dev nD) (t : Fin cfg0.N) (r : Fin 1024) (d : Fin 2816) :
    iblk m c 8 t (ix2 r d) = m ((c : Thread nD τ).loc main_arg7) (ix2 r d) := by
  blk_ext [iblk, V, idx t]

theorem read9 (c : Dev nD) (t : Fin cfg0.N) (r : Fin 2816) (d : Fin 1024) :
    iblk m c 9 t (ix2 r d) = m ((c : Thread nD τ).loc main_arg8) (ix2 r d) := by
  blk_ext [iblk, V, idx t]

/-- The place in the result of an entry of the block stored at a point. -/
theorem out_at (t : Fin cfg0.N) (r : Fin 512) (d : Fin 1024) :
    (((View.whole main_v14).slice (win0_12.rect t)).emb (ix2 r d) : S32768x1024.Idx)
      = ix2 (⟨t.val * 512 + r.val, by have h : t.val < 64 := t.isLt; omega⟩ : Fin 32768) d := by
  blk_ext [idx t]

theorem final (c : Dev nD) : (dats m 0 c).arrAt 12 (cfgs 0).N
    = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9))
      (m ((c : Thread nD τ).loc main_arg10)) := by
  refine (dats m 0 c).arrAt_eq_of_covers 12 _ (by decide +kernel) fun t _ y => ?_
  blk_simp
  rw [after0_12]
  frame_out
  idx_vars y
  have hN : t.val < 64 := t.isLt
  pointwise [k0_pay1, k0_pay5, k0_pay7]
  rw [FfnBlock.second]
  simp only [FfnBlock.first]
  rw [out_at t y0 y1]
  simp only [read0, read1, read2, read3, read4, read5, read6, read7, read8, read9, read10, read11]
  rfl

end Cert.FfnArray

end
-- ==== Proof.FfnRef.lean ====
/- What the reference of the feed-forward part computes: the same row function of the arguments. -/
module

public import proofs.«01_k».proof.Proof.Gen.Reference2Ideal.Run
public import proofs.«01_k».proof.Proof.FfnRow
public import Idealize.ShloMosaic.Lib.Pointwise

@[expose] public section

set_option maxRecDepth 16384

noncomputable section

namespace Cert.FfnRef

open Idealize.ShloMosaic Idealize.ShloMosaic.TcCoe Idealize.SL.Sem
open Cert.Reference2Ideal Cert.Reference2Ideal.Gen Cert.FfnRow

variable (V : Valuation τ sig (Elt Ideal))

/-- The first norm's operand. -/
theorem v6_at (b : Fin 8) (s : Fin 4096) (d : Fin 1024) :
    (Value.res_main_v6 V : FVec Ideal S8x4096x1024 .f32) (ix3 b s d)
      = mixed (fun d => V (Proc.devRef .tc main_arg0) (ix3 b s d)) (fun k => V (Proc.devRef .tc main_arg1) (ix3 b s k))
          (fun k => V (Proc.devRef .tc main_arg2) (ix3 b s k))
          (fun k d => V (Proc.devRef .tc main_arg3) (ix2 ⟨k.val, by omega⟩ d))
          (fun k d => V (Proc.devRef .tc main_arg3) (ix2 ⟨512 + k.val, by omega⟩ d)) d := by
  pointwise [Value.res_main_v6]
  rfl

/-- The first norm with its weights. -/
theorem v30_at (b : Fin 8) (s : Fin 4096) (d : Fin 1024) :
    (Value.res_main_v30 V : FVec Ideal S8x4096x1024 .f32) (ix3 b s d)
      = affine (fun d => (Value.res_main_v6 V : FVec Ideal S8x4096x1024 .f32) (ix3 b s d))
        (fun d => V (Proc.devRef .tc main_arg4) (ix1 d)) (fun d => V (Proc.devRef .tc main_arg5) (ix1 d)) d := by
  pointwise [Value.res_main_v30, Value.res_main_v10, Value.res_main_v12]
  rfl

/-- The second norm's operand. -/
theorem v38_at (b : Fin 8) (s : Fin 4096) (d : Fin 1024) :
    (Value.res_main_v38 V : FVec Ideal S8x4096x1024 .f32) (ix3 b s d)
      = fed (fun d => (Value.res_main_v30 V : FVec Ideal S8x4096x1024 .f32) (ix3 b s d))
        (fun d f => V (Proc.devRef .tc main_arg6) (ix2 d f)) (fun d f => V (Proc.devRef .tc main_arg7) (ix2 d f))
        (fun f d => V (Proc.devRef .tc main_arg8) (ix2 f d)) d := by
  pointwise [Value.res_main_v38, Value.res_main_v31]
  rfl

end Cert.FfnRef

end
-- ==== Proof.FfnClaim.lean ====
/- The feed-forward kernel and its reference leave the same result. -/
module

public import proofs.«01_k».proof.Defs
public import proofs.«01_k».proof.Proof.Gen.Kernel2Ideal
public import proofs.«01_k».proof.Proof.Gen.Reference2Ideal
public import proofs.«01_k».proof.Proof.FfnArray
public import proofs.«01_k».proof.Proof.FfnRef

@[expose] public section

set_option maxRecDepth 16384

noncomputable section

namespace Cert.FfnClaim

open Idealize.ShloMosaic Idealize.ShloMosaic.TcCoe Idealize.SL.Sem
open Cert.FfnRow

/-- The reference's result, row by row. -/
theorem reference_at (m : (ℓ : Loc Reference2Ideal.nD Reference2Ideal.τ Reference2Ideal.sig) → Buf (Elt Ideal) ℓ)
    (g : Dev Reference2Ideal.nD → PrngReg) :
    θ_run (Reference2Ideal.defs (F := Ideal)) (onTc (τ := Reference2Ideal.τ) (Reference2Ideal.main (F := Ideal)))
      ⟨m, fun _ => 0, g⟩ fun r => ∀ c : Dev Reference2Ideal.nD,
      r.2.mem ((c.tc : Thread Reference2Ideal.nD Reference2Ideal.τ).loc Reference2Ideal.main_v63)
        = FfnArray.result (m (c.tc.loc Reference2Ideal.main_arg0)) (m (c.tc.loc Reference2Ideal.main_arg1))
          (m (c.tc.loc Reference2Ideal.main_arg2)) (m (c.tc.loc Reference2Ideal.main_arg3))
          (m (c.tc.loc Reference2Ideal.main_arg4)) (m (c.tc.loc Reference2Ideal.main_arg5))
          (m (c.tc.loc Reference2Ideal.main_arg6)) (m (c.tc.loc Reference2Ideal.main_arg7))
          (m (c.tc.loc Reference2Ideal.main_arg8)) (m (c.tc.loc Reference2Ideal.main_arg9))
          (m (c.tc.loc Reference2Ideal.main_arg10)) ∧
      r.2.mem (c.tc.loc Reference2Ideal.main_arg0) = m (c.tc.loc Reference2Ideal.main_arg0) ∧
      r.2.mem (c.tc.loc Reference2Ideal.main_arg1) = m (c.tc.loc Reference2Ideal.main_arg1) ∧
      r.2.mem (c.tc.loc Reference2Ideal.main_arg2) = m (c.tc.loc Reference2Ideal.main_arg2) ∧
      r.2.mem (c.tc.loc Reference2Ideal.main_arg3) = m (c.tc.loc Reference2Ideal.main_arg3) ∧
      r.2.mem (c.tc.loc Reference2Ideal.main_arg4) = m (c.tc.loc Reference2Ideal.main_arg4) ∧
      r.2.mem (c.tc.loc Reference2Ideal.main_arg5) = m (c.tc.loc Reference2Ideal.main_arg5) ∧
      r.2.mem (c.tc.loc Reference2Ideal.main_arg6) = m (c.tc.loc Reference2Ideal.main_arg6) ∧
      r.2.mem (c.tc.loc Reference2Ideal.main_arg7) = m (c.tc.loc Reference2Ideal.main_arg7) ∧
      r.2.mem (c.tc.loc Reference2Ideal.main_arg8) = m (c.tc.loc Reference2Ideal.main_arg8) ∧
      r.2.mem (c.tc.loc Reference2Ideal.main_arg9) = m (c.tc.loc Reference2Ideal.main_arg9) ∧
      r.2.mem (c.tc.loc Reference2Ideal.main_arg10) = m (c.tc.loc Reference2Ideal.main_arg10) := by
  refine (θ_run _ _ _).mono (fun r h c => ⟨(h c).1.trans ?_, (h c).2⟩) (Reference2Ideal.Value.run (F := Ideal) m g)
  funext i
  idx_vars i
  pointwise [Reference2Ideal.Value.res_main_v42, Reference2Ideal.Value.res_main_v44]
  simp only [FfnRef.v38_at, FfnRef.v30_at, FfnRef.v6_at]
  rfl

theorem algebraic : Cert.algebraic_Kernel2Ideal_Reference2Ideal (hKernel2Ideal := Kernel2Ideal.Gen.facts)
    (hReference2Ideal := Reference2Ideal.Gen.facts) := by
  intro m g m' g' _ hag
  refine ⟨fun c => (Kernel2Ideal.Gen.dats m 0 c).arrAt 12 Kernel2Ideal.cfg0.N, Kernel2Ideal.Value.run_blocks m g, ?_⟩
  refine (θ_run _ _ _).mono (fun r h c => ⟨(h c).1.trans ?_, (h c).2⟩) (reference_at m' g')
  obtain ⟨h0, h1, h2, h3, h4, h5, h6, h7, h8, h9, h10⟩ := hag c
  rw [h0, h1, h2, h3, h4, h5, h6, h7, h8, h9, h10]
  exact (FfnArray.final m c).symm

end Cert.FfnClaim

end
-- ==== Proof.ProjBlock.lean ====
/- What one block of the projection kernel computes, entry by entry. -/
module

public import proofs.«01_k».proof.Proof.Gen.Kernel3Ideal.Frame
public import Idealize.ShloMosaic.Lib.Pointwise
public import Idealize.ShloMosaic.Lib.Pipeline.ValueKit

@[expose] public section

set_option maxRecDepth 16384

noncomputable section

namespace Cert.ProjBlock

open Idealize.ShloMosaic Idealize.ShloMosaic.TcCoe Idealize.SL.Sem
open Idealize.ShloMosaic.Pipeline (Dat)
open Cert.Kernel3Ideal Cert.Kernel3Ideal.Gen

/-- One entry of the product of a block of tokens with the weights. -/
def dot (X : FVec Ideal S1024x1024 .f32) (W : FVec Ideal S1024x3200 .bf16) (r : Fin 1024) (f : Fin 3200) : EReal :=
  ∑ k : Fin 1024, X (ix2 r k) * W (ix2 k f)

theorem product (X : FVec Ideal S1024x1024 .f32) (W : FVec Ideal S1024x3200 .bf16) (r : Fin 1024) (f : Fin 3200) :
    k0_pay3 (F := Ideal) X W (ix2 r f) = dot X W r f := by
  pointwise [k0_pay3]
  rfl

/-- The factor of the queries. -/
def factor : EReal := Scalar.ofBits (F := Ideal) .f32 0x3E38AA3B#32

/-- The sixth of the columns a group of 128 columns belongs to is the queries' one in the first and the fourth sixth. -/
def group (X : FVec Ideal S1024x1024 .f32) (W : FVec Ideal S1024x3200 .bf16) (n : Fin 24) (r : Fin 1024) (l : Fin 128) : EReal :=
  if n.val % 12 < 4 then dot X W r ⟨n.val * 128 + l.val, by omega⟩ * factor
  else dot X W r ⟨n.val * 128 + l.val, by omega⟩

/-- A group of columns stored as it is. -/
theorem plain (X : FVec Ideal S1024x1024 .f32) (W : FVec Ideal S1024x3200 .bf16) (o : ℕ)
    (hs : S1024x3200.Slices ![0, o] S1024x128) (hb : FTy.bits .bf16 < FTy.bits .f32)
    (hc : S1024x128.ShapeCasts S1x1x1024x128) (x : S1x1x1024x128.Idx) (n : Fin 24) (r : Fin 1024) (l : Fin 128)
    (ho : o = n.val * 128) (hn : ¬ n.val % 12 < 4) (hr : r.val = (x 2).val) (hl : l.val = (x 3).val) :
    shapeCast S1x1x1024x128 (truncf .bf16 (extractStridedSlice S1024x128 ![0, o] (k0_pay3 (F := Ideal) X W) hs) hb) hc x
      = group X W n r l := by
  idx_vars x
  obtain rfl : r = x2 := Fin.ext hr
  obtain rfl : l = x3 := Fin.ext hl
  subst ho
  unfold group
  rw [if_neg hn]
  pointwise
  rw [product]

/-- A group of columns stored times the factor. -/
theorem scaled (X : FVec Ideal S1024x1024 .f32) (W : FVec Ideal S1024x3200 .bf16) (o : ℕ)
    (hs : S1024x3200.Slices ![0, o] S1024x128) (hb : FTy.bits .bf16 < FTy.bits .f32)
    (hc : S1024x128.ShapeCasts S1x1x1024x128) (x : S1x1x1024x128.Idx) (n : Fin 24) (r : Fin 1024) (l : Fin 128)
    (ho : o = n.val * 128) (hn : n.val % 12 < 4) (hr : r.val = (x 2).val) (hl : l.val = (x 3).val) :
    shapeCast S1x1x1024x128 (truncf .bf16 (mulf (extractStridedSlice S1024x128 ![0, o] (k0_pay3 (F := Ideal) X W) hs)
        (broadcast S1024x128 (Scalar.ofBits (F := Ideal) .f32 0x3E38AA3B#32))) hb) hc x
      = group X W n r l := by
  idx_vars x
  obtain rfl : r = x2 := Fin.ext hr
  obtain rfl : l = x3 := Fin.ext hl
  subst ho
  unfold group factor
  rw [if_pos hn]
  pointwise
  rw [product]

variable (m : (ℓ : Loc nD τ sig) → Buf (Elt Ideal) ℓ)

theorem groups_first (c : Dev nD) (t : Fin cfg0.N) (h : t.val % 4 = 0) (y : S1x24x1024x128.Idx) :
    (outsAt0 m c t.val t.isLt).1 y = group (iblk m c 0 t) (iblk m c 1 t) (y 1) (y 2) (y 3) := by
  rw [outsAt0_A m c t h]
  frame_out
  canon_tiles x h
  case piece8 | piece9 | piece11 | piece20 | piece21 | piece22 | piece23 =>
    exact scaled (iblk m c 0 t) (iblk m c 1 t) _ _ _ _ x _ _ _ (by omega) (by omega) h2 h3
  case piece10 =>
    exact scaled (iblk m c 0 t) (iblk m c 1 t) _ slices_S1024x3200_o0_1664_S1024x128 _ _ x _ _ _ (by omega) (by omega)
      h2 h3
  all_goals exact plain (iblk m c 0 t) (iblk m c 1 t) _ _ _ _ x _ _ _ (by omega) (by omega) h2 h3

theorem groups_next (c : Dev nD) (t : Fin cfg0.N) (h : ¬ t.val % 4 = 0) (y : S1x24x1024x128.Idx) :
    (outsAt0 m c t.val t.isLt).1 y = group (iblk m c 0 t) (iblk m c 1 t) (y 1) (y 2) (y 3) := by
  rw [outsAt0_B m c t h]
  frame_out
  canon_tiles x h
  case piece8 | piece9 | piece11 | piece20 | piece21 | piece22 | piece23 =>
    exact scaled (iblk m c 0 t) (iblk m c 1 t) _ _ _ _ x _ _ _ (by omega) (by omega) h2 h3
  case piece10 =>
    exact scaled (iblk m c 0 t) (iblk m c 1 t) _ slices_S1024x3200_o0_1664_S1024x128 _ _ x _ _ _ (by omega) (by omega)
      h2 h3
  all_goals exact plain (iblk m c 0 t) (iblk m c 1 t) _ _ _ _ x _ _ _ (by omega) (by omega) h2 h3

/-- The first result's block at every point. -/
theorem groups (c : Dev nD) (t : Fin cfg0.N) (y : S1x24x1024x128.Idx) :
    (outsAt0 m c t.val t.isLt).1 y = group (iblk m c 0 t) (iblk m c 1 t) (y 1) (y 2) (y 3) := by
  by_cases h : t.val % 4 = 0
  · exact groups_first m c t h y
  · exact groups_next m c t h y

end Cert.ProjBlock

end
-- ==== Proof.ProjRow.lean ====
/- The projection's results as functions of its arguments, entry by entry. -/
module

public import Idealize.ShloMosaic.PureOps.Ideal
public import Idealize.ShloMosaic.Lib.Pointwise

@[expose] public section

noncomputable section

namespace Cert.ProjRow

open Idealize.ShloMosaic

/-- The logarithm of the forget gate at a logit. -/
def gate (z : EReal) : EReal := min z 0 - Ideal.log (1 + Ideal.exp (0 - max z (-z)))

theorem log_one_add (u : ℝ) (hu : 0 ≤ u) : Ideal.log (1 + (u : EReal)) = ((Real.log (1 + u) : ℝ) : EReal) := by
  rw [← EReal.coe_one, ← EReal.coe_add, Ideal.log_coe, if_neg (by linarith)]

theorem gate_coe (z : ℝ) : gate (z : EReal) = ((min z 0 - Real.log (1 + Real.exp (-|z|)) : ℝ) : EReal) := by
  unfold gate
  rw [← EReal.coe_neg, ← EReal.coe_strictMono.monotone.map_max, ← EReal.coe_zero, ← EReal.coe_sub, Ideal.exp_coe,
    log_one_add _ (Real.exp_pos _).le, ← EReal.coe_strictMono.monotone.map_min, ← EReal.coe_sub]
  rw [zero_sub]
  rfl

theorem gate_bot : gate ⊥ = ⊥ := by
  unfold gate
  simp [EReal.bot_sub]

theorem gate_top : gate ⊤ = 0 := by
  unfold gate
  have h : (0 : EReal) - ⊤ = ⊥ := by rw [zero_sub]; rfl
  have h1 := log_one_add 0 le_rfl
  rw [EReal.coe_zero, add_zero, add_zero, Real.log_one, EReal.coe_zero] at h1
  simp [h, h1]

theorem gate_ne_top (z : EReal) : gate z ≠ ⊤ := by
  induction z using EReal.rec with
  | bot => rw [gate_bot]; exact bot_ne_top
  | top => rw [gate_top]; exact EReal.zero_ne_top
  | coe z => rw [gate_coe]; exact EReal.coe_ne_top _

theorem log1p_coe (u : ℝ) (hu : 0 ≤ u) : Ideal.log1p (u : EReal) = ((Real.log (1 + u) : ℝ) : EReal) := log_one_add u hu

/-- The factor of the queries. -/
def factor : EReal := Scalar.ofBits (F := Ideal) .f32 0x3E38AA3B#32

/-- The column of the model's weights a column of the queries, keys and values is. -/
def src (f : Fin 3072) : Fin 3080 := if f.val < 1536 then ⟨f.val, by omega⟩ else ⟨f.val + 8, by omega⟩

section

variable (x : Fin 8 → Fin 4096 → Fin 1024 → EReal) (w : Fin 1024 → Fin 3080 → EReal) (bf : Fin 8 → EReal)

/-- One entry of the projection. -/
def proj (b : Fin 8) (s : Fin 4096) (f : Fin 3080) : EReal := ∑ k : Fin 1024, x b s k * w k f

/-- One entry of a group of 128 columns; the queries' groups carry the factor. -/
def qkv (b : Fin 8) (n : Fin 24) (s : Fin 4096) (l : Fin 128) : EReal :=
  if n.val % 12 < 4 then proj x w b s (src ⟨n.val * 128 + l.val, by omega⟩) * factor
  else proj x w b s (src ⟨n.val * 128 + l.val, by omega⟩)

/-- The running sum of the logarithms of one head's forget gates. -/
def cum (b : Fin 8) (s : Fin 4096) (h : Fin 8) : EReal :=
  ∑ i ∈ Finset.range (s.val + 1),
    if hi : i < 4096 then gate (proj x w b ⟨i, hi⟩ ⟨1536 + h.val, by omega⟩ + bf h) else 0

end

end Cert.ProjRow

end
-- ==== Proof.ProjScan.lean ====
/- The running sums one block of the projection kernel computes, slab by slab of 128 tokens. -/
module

public import proofs.«01_k».proof.Proof.Gen.Kernel3Ideal.Frame
public import proofs.«01_k».proof.Proof.ProjRow
public import Idealize.ShloMosaic.Lib.Pointwise
public import Idealize.ShloMosaic.Lib.Pipeline.ValueKit

@[expose] public section

set_option maxRecDepth 16384

noncomputable section

namespace Cert.ProjScan

open Idealize.ShloMosaic Idealize.ShloMosaic.TcCoe Idealize.SL.Sem
open Idealize.ShloMosaic.Pipeline (Dat)
open Cert.Kernel3Ideal Cert.Kernel3Ideal.Gen
open Cert.ProjRow (gate gate_ne_top)

theorem gate_at (Z : FVec Ideal S1024x128 .f32) (B : FVec Ideal S1x128 .f32) (r : Fin 1024) (l : Fin 128) :
    k0_pay32 (F := Ideal) Z B (ix2 r l) = gate (Z (ix2 r l) + B (ix2 0 l)) := by
  pointwise [k0_pay32]
  rfl

/-- A value and its two remainders add up to the value. -/
theorem add_rests (p : EReal) (h : p ≠ ⊤) : p + (p - p) + (p - p - (p - p)) = p := by
  induction p using EReal.rec with
  | bot => rfl
  | top => exact absurd rfl h
  | coe p => rw [← EReal.coe_sub, ← EReal.coe_sub, ← EReal.coe_add, ← EReal.coe_add]; congr 1; ring

theorem parts (Z : FVec Ideal S1024x128 .f32) (B : FVec Ideal S1x128 .f32) (r : Fin 1024) (l : Fin 128) :
    k0_pay34 (F := Ideal) Z B (ix2 r l) + k0_pay36 (F := Ideal) Z B (ix2 r l) + k0_pay37 (F := Ideal) Z B (ix2 r l)
      = gate (Z (ix2 r l) + B (ix2 0 l)) := by
  pointwise [k0_pay34, k0_pay36, k0_pay37, k0_pay35]
  rw [gate_at]
  exact add_rests _ (gate_ne_top _)

/-- The triangle of ones. -/
theorem triangle (r k : Fin 128) : k0_pay33 (F := Ideal) (ix2 r k) = if k.val ≤ r.val then (1 : EReal) else 0 := by
  pointwise [k0_pay33]
  rw [WordCmp.cmpi_sle_ofNat (by omega) (by omega)]
  by_cases h : k.val ≤ r.val
  · rw [if_pos h, decide_eq_true h]; rfl
  · rw [if_neg h, decide_eq_false h]; rfl

theorem sum_triangle (f : ℕ → EReal) (r : Fin 128) :
    ∑ k : Fin 128, (if k.val ≤ r.val then f k.val else 0) = ∑ i ∈ Finset.range (r.val + 1), f i := by
  rw [Fin.sum_univ_eq_sum_range (fun n => if n ≤ r.val then f n else 0) 128, ← Finset.sum_filter]
  refine Finset.sum_congr (Finset.ext fun n => ?_) fun _ _ => rfl
  rw [Finset.mem_filter, Finset.mem_range, Finset.mem_range]
  omega

/-- One slab: the running sum goes on from the row carried in. -/
theorem slab (hi mid lo : FVec Ideal S1024x128 .bf16) (C : FVec Ideal S1x128 .f32) (o : ℕ)
    (hs hs' hs'' : S1024x128.Slices ![o, 0] S128x128) (hb : S1x128.Broadcasts S128x128) (L : ℕ → EReal) (l : Fin 128) (c0 : EReal)
    (ho : o + 128 ≤ 1024)
    (hL : ∀ j : Fin 1024, hi (ix2 j l) + mid (ix2 j l) + lo (ix2 j l) = L j.val)
    (hC : C (ix2 0 l) = c0 + ∑ i ∈ Finset.range o, L i) (r : Fin 128) :
    addf (addf (addf
        (matmul dot_S128x128_S128x128_S128x128_1_0_0_1_n_n none (k0_pay33 (F := Ideal))
          (extractStridedSlice S128x128 ![o, 0] hi hs) (constant S128x128 .f32 0x00000000#32))
        (matmul dot_S128x128_S128x128_S128x128_1_0_0_1_n_n none (k0_pay33 (F := Ideal))
          (extractStridedSlice S128x128 ![o, 0] mid hs') (constant S128x128 .f32 0x00000000#32)))
        (matmul dot_S128x128_S128x128_S128x128_1_0_0_1_n_n none (k0_pay33 (F := Ideal))
          (extractStridedSlice S128x128 ![o, 0] lo hs'') (constant S128x128 .f32 0x00000000#32)))
      (broadcastTo S128x128 C hb) (ix2 r l) = c0 + ∑ i ∈ Finset.range (o + (r.val + 1)), L i := by
  pointwise
  have e : ∀ k : Fin 128, k0_pay33 (F := Ideal) (ix2 r k) * hi (ix2 ⟨o + k.val, by omega⟩ l)
      + k0_pay33 (F := Ideal) (ix2 r k) * mid (ix2 ⟨o + k.val, by omega⟩ l)
      + k0_pay33 (F := Ideal) (ix2 r k) * lo (ix2 ⟨o + k.val, by omega⟩ l)
      = if k.val ≤ r.val then L (o + k.val) else 0 := fun k => by
    rw [triangle]
    by_cases h : k.val ≤ r.val
    · rw [if_pos h, if_pos h, one_mul, one_mul, one_mul]; exact hL _
    · rw [if_neg h, if_neg h, zero_mul, zero_mul, zero_mul, add_zero, add_zero]
  rw [hC, Finset.sum_range_add, ← sum_triangle (fun i => L (o + i)), ← Finset.sum_congr rfl fun k _ => e k]
  rw [Finset.sum_add_distrib, Finset.sum_add_distrib]
  rw [← add_assoc, ← add_assoc, add_comm _ c0, add_assoc c0, add_assoc c0]
  rw [add_comm _ (∑ i ∈ Finset.range o, L i)]

/-- The last row of a slab. -/
theorem last (Y : FVec Ideal S128x128 .f32) (hs : S128x128.Slices ![127, 0] S1x128) (l : Fin 128) :
    extractStridedSlice S1x128 ![127, 0] Y hs (ix2 0 l) = Y (ix2 127 l) := by
  pointwise

section Slabs

variable (Z : FVec Ideal S1024x128 .f32) (B C : FVec Ideal S1x128 .f32)

/-- The logarithms of the gates of one head, in the order of the rows. -/
def logs (l : Fin 128) (i : ℕ) : EReal := if h : i < 1024 then gate (Z (ix2 ⟨i, h⟩ l) + B (ix2 0 l)) else 0

theorem logs_parts (l : Fin 128) (j : Fin 1024) :
    k0_pay34 (F := Ideal) Z B (ix2 j l) + k0_pay36 (F := Ideal) Z B (ix2 j l) + k0_pay37 (F := Ideal) Z B (ix2 j l)
      = logs Z B l j.val := by
  rw [parts, logs, dif_pos j.isLt]

/-- What the running sum is after `n` rows. -/
def upto (l : Fin 128) (n : ℕ) : EReal := C (ix2 0 l) + ∑ i ∈ Finset.range n, logs Z B l i

/-- The eight slabs of a block in their order, each the running sum at its rows. -/
def slabs : Fin 8 → FVec Ideal S128x128 .f32
  | 0 => k0_pay38 Z B C
  | 1 => k0_pay42 (k0_pay33 (F := Ideal)) (k0_pay37 Z B) (k0_pay39 Z B C) (k0_pay40 Z B) (k0_pay41 Z B) (constant S128x128 .f32 0x00000000#32)
  | 2 => k0_pay43 (k0_pay33 (F := Ideal)) (k0_pay34 Z B) (k0_pay36 Z B) (k0_pay37 Z B) (k0_pay39 Z B C) (k0_pay40 Z B) (k0_pay41 Z B) (constant S128x128 .f32 0x00000000#32)
  | 3 => k0_pay44 (k0_pay33 (F := Ideal)) (k0_pay34 Z B) (k0_pay36 Z B) (k0_pay37 Z B) (k0_pay39 Z B C) (k0_pay40 Z B) (k0_pay41 Z B) (constant S128x128 .f32 0x00000000#32)
  | 4 => k0_pay47 (k0_pay45 (k0_pay33 (F := Ideal)) (k0_pay34 Z B) (k0_pay36 Z B) (k0_pay37 Z B) (k0_pay39 Z B C) (k0_pay40 Z B) (k0_pay41 Z B) (constant S128x128 .f32 0x00000000#32)) (k0_pay46 (k0_pay33 (F := Ideal)) (k0_pay34 Z B) (k0_pay36 Z B) (k0_pay37 Z B))
  | 5 => k0_pay48 (k0_pay33 (F := Ideal)) (k0_pay34 Z B) (k0_pay36 Z B) (k0_pay37 Z B) (k0_pay45 (k0_pay33 (F := Ideal)) (k0_pay34 Z B) (k0_pay36 Z B) (k0_pay37 Z B) (k0_pay39 Z B C) (k0_pay40 Z B) (k0_pay41 Z B) (constant S128x128 .f32 0x00000000#32)) (k0_pay46 (k0_pay33 (F := Ideal)) (k0_pay34 Z B) (k0_pay36 Z B) (k0_pay37 Z B))
  | 6 => k0_pay49 (k0_pay33 (F := Ideal)) (k0_pay34 Z B) (k0_pay36 Z B) (k0_pay37 Z B) (k0_pay45 (k0_pay33 (F := Ideal)) (k0_pay34 Z B) (k0_pay36 Z B) (k0_pay37 Z B) (k0_pay39 Z B C) (k0_pay40 Z B) (k0_pay41 Z B) (constant S128x128 .f32 0x00000000#32)) (k0_pay46 (k0_pay33 (F := Ideal)) (k0_pay34 Z B) (k0_pay36 Z B) (k0_pay37 Z B))
  | 7 => k0_pay50 (k0_pay33 (F := Ideal)) (k0_pay34 Z B) (k0_pay36 Z B) (k0_pay37 Z B) (k0_pay45 (k0_pay33 (F := Ideal)) (k0_pay34 Z B) (k0_pay36 Z B) (k0_pay37 Z B) (k0_pay39 Z B C) (k0_pay40 Z B) (k0_pay41 Z B) (constant S128x128 .f32 0x00000000#32)) (k0_pay46 (k0_pay33 (F := Ideal)) (k0_pay34 Z B) (k0_pay36 Z B) (k0_pay37 Z B))

/-- The row carried into a slab. -/
def rowIn : Fin 8 → FVec Ideal S1x128 .f32
  | 0 => C
  | 1 => extractStridedSlice S1x128 ![127, 0] (slabs Z B C 0) slices_S128x128_o127_0_S1x128
  | 2 => extractStridedSlice S1x128 ![127, 0] (slabs Z B C 1) slices_S128x128_o127_0_S1x128
  | 3 => extractStridedSlice S1x128 ![127, 0] (slabs Z B C 2) slices_S128x128_o127_0_S1x128
  | 4 => extractStridedSlice S1x128 ![127, 0] (slabs Z B C 3) slices_S128x128_o127_0_S1x128
  | 5 => extractStridedSlice S1x128 ![127, 0] (slabs Z B C 4) slices_S128x128_o127_0_S1x128
  | 6 => extractStridedSlice S1x128 ![127, 0] (slabs Z B C 5) slices_S128x128_o127_0_S1x128
  | 7 => extractStridedSlice S1x128 ![127, 0] (slabs Z B C 6) slices_S128x128_o127_0_S1x128

theorem slab0 (r l : Fin 128) : slabs Z B C 0 (ix2 r l) = upto Z B C l (0 + (r.val + 1)) :=
  slab (k0_pay34 Z B) (k0_pay36 Z B) (k0_pay37 Z B) (rowIn Z B C 0) 0 slices_S1024x128_o0_0_S128x128
    slices_S1024x128_o0_0_S128x128 slices_S1024x128_o0_0_S128x128 broadcasts_S1x128_S128x128
    (logs Z B l) l (C (ix2 0 l)) (by omega) (logs_parts Z B l) (by rw [Finset.sum_range_zero, add_zero]; rfl) r

theorem slab1 (r l : Fin 128) : slabs Z B C 1 (ix2 r l) = upto Z B C l (128 + (r.val + 1)) :=
  slab (k0_pay34 Z B) (k0_pay36 Z B) (k0_pay37 Z B) (rowIn Z B C 1) 128 slices_S1024x128_o128_0_S128x128
    slices_S1024x128_o128_0_S128x128 slices_S1024x128_o128_0_S128x128 broadcasts_S1x128_S128x128
    (logs Z B l) l (C (ix2 0 l)) (by omega) (logs_parts Z B l) ((last _ slices_S128x128_o127_0_S1x128 l).trans (slab0 Z B C 127 l)) r

theorem slab2 (r l : Fin 128) : slabs Z B C 2 (ix2 r l) = upto Z B C l (256 + (r.val + 1)) :=
  slab (k0_pay34 Z B) (k0_pay36 Z B) (k0_pay37 Z B) (rowIn Z B C 2) 256 slices_S1024x128_o256_0_S128x128
    slices_S1024x128_o256_0_S128x128 slices_S1024x128_o256_0_S128x128 broadcasts_S1x128_S128x128
    (logs Z B l) l (C (ix2 0 l)) (by omega) (logs_parts Z B l) ((last _ slices_S128x128_o127_0_S1x128 l).trans (slab1 Z B C 127 l)) r

theorem slab3 (r l : Fin 128) : slabs Z B C 3 (ix2 r l) = upto Z B C l (384 + (r.val + 1)) :=
  slab (k0_pay34 Z B) (k0_pay36 Z B) (k0_pay37 Z B) (rowIn Z B C 3) 384 slices_S1024x128_o384_0_S128x128
    slices_S1024x128_o384_0_S128x128 slices_S1024x128_o384_0_S128x128 broadcasts_S1x128_S128x128
    (logs Z B l) l (C (ix2 0 l)) (by omega) (logs_parts Z B l) ((last _ slices_S128x128_o127_0_S1x128 l).trans (slab2 Z B C 127 l)) r

theorem slab4 (r l : Fin 128) : slabs Z B C 4 (ix2 r l) = upto Z B C l (512 + (r.val + 1)) :=
  slab (k0_pay34 Z B) (k0_pay36 Z B) (k0_pay37 Z B) (rowIn Z B C 4) 512 slices_S1024x128_o512_0_S128x128
    slices_S1024x128_o512_0_S128x128 slices_S1024x128_o512_0_S128x128 broadcasts_S1x128_S128x128
    (logs Z B l) l (C (ix2 0 l)) (by omega) (logs_parts Z B l) ((last _ slices_S128x128_o127_0_S1x128 l).trans (slab3 Z B C 127 l)) r

theorem slab5 (r l : Fin 128) : slabs Z B C 5 (ix2 r l) = upto Z B C l (640 + (r.val + 1)) :=
  slab (k0_pay34 Z B) (k0_pay36 Z B) (k0_pay37 Z B) (rowIn Z B C 5) 640 slices_S1024x128_o640_0_S128x128
    slices_S1024x128_o640_0_S128x128 slices_S1024x128_o640_0_S128x128 broadcasts_S1x128_S128x128
    (logs Z B l) l (C (ix2 0 l)) (by omega) (logs_parts Z B l) ((last _ slices_S128x128_o127_0_S1x128 l).trans (slab4 Z B C 127 l)) r

theorem slab6 (r l : Fin 128) : slabs Z B C 6 (ix2 r l) = upto Z B C l (768 + (r.val + 1)) :=
  slab (k0_pay34 Z B) (k0_pay36 Z B) (k0_pay37 Z B) (rowIn Z B C 6) 768 slices_S1024x128_o768_0_S128x128
    slices_S1024x128_o768_0_S128x128 slices_S1024x128_o768_0_S128x128 broadcasts_S1x128_S128x128
    (logs Z B l) l (C (ix2 0 l)) (by omega) (logs_parts Z B l) ((last _ slices_S128x128_o127_0_S1x128 l).trans (slab5 Z B C 127 l)) r

theorem slab7 (r l : Fin 128) : slabs Z B C 7 (ix2 r l) = upto Z B C l (896 + (r.val + 1)) :=
  slab (k0_pay34 Z B) (k0_pay36 Z B) (k0_pay37 Z B) (rowIn Z B C 7) 896 slices_S1024x128_o896_0_S128x128
    slices_S1024x128_o896_0_S128x128 slices_S1024x128_o896_0_S128x128 broadcasts_S1x128_S128x128
    (logs Z B l) l (C (ix2 0 l)) (by omega) (logs_parts Z B l) ((last _ slices_S128x128_o127_0_S1x128 l).trans (slab6 Z B C 127 l)) r

end Slabs

theorem tile (Z : FVec Ideal S1024x128 .f32) (B C : FVec Ideal S1x128 .f32) (Y : FVec Ideal S128x128 .f32) (o : ℕ)
    (hs : ∀ r l : Fin 128, Y (ix2 r l) = upto Z B C l (o + (r.val + 1))) (x : S128x128.Idx) (r : Fin 1024) (l : Fin 128)
    (h0 : r.val = o + (x 0).val) (h1 : l.val = (x 1).val) : Y x = upto Z B C l (r.val + 1) := by
  idx_vars x
  have e : l = x1 := Fin.ext h1
  rw [hs, h0, e]
  rfl

variable (m : (ℓ : Loc nD τ sig) → Buf (Elt Ideal) ℓ)

/-- The forget gates' logits of a point, before the bias. -/
def logits (c : Dev nD) (t : Fin cfg0.N) : FVec Ideal S1024x128 .f32 := k0_pay31 (k0_pay3 (iblk m c 0 t) (iblk m c 1 t))

theorem scratch_read (h : scM0_0.IsWhole) (v : Vec Ideal S1x128 .f32) :
    View.read (Elt Ideal) (View.whole cc0_scratch0) (h.unread v) = v := h.read_unread v

theorem cum_first (c : Dev nD) (t : Fin cfg0.N) (h : t.val % 4 = 0) (y : S1024x128.Idx) :
    (outsAt0 m c t.val t.isLt).2.1 y = upto (logits m c t) (iblk m c 2 t) k0_pay2 (y 1) ((y 0).val + 1) := by
  rw [outsAt0_A m c t h]
  frame_out
  canon_tiles x h
  case piece0 => exact tile _ _ _ _ _ (slab7 (logits m c t) (iblk m c 2 t) k0_pay2) x _ _ (by omega) (by omega)
  case piece1 => exact tile _ _ _ _ _ (slab6 (logits m c t) (iblk m c 2 t) k0_pay2) x _ _ (by omega) (by omega)
  case piece2 => exact tile _ _ _ _ _ (slab5 (logits m c t) (iblk m c 2 t) k0_pay2) x _ _ (by omega) (by omega)
  case piece3 => exact tile _ _ _ _ _ (slab4 (logits m c t) (iblk m c 2 t) k0_pay2) x _ _ (by omega) (by omega)
  case piece4 => exact tile _ _ _ _ _ (slab3 (logits m c t) (iblk m c 2 t) k0_pay2) x _ _ (by omega) (by omega)
  case piece5 => exact tile _ _ _ _ _ (slab2 (logits m c t) (iblk m c 2 t) k0_pay2) x _ _ (by omega) (by omega)
  case piece6 => exact tile _ _ _ _ _ (slab1 (logits m c t) (iblk m c 2 t) k0_pay2) x _ _ (by omega) (by omega)
  case piece7 => exact tile _ _ _ _ _ (slab0 (logits m c t) (iblk m c 2 t) k0_pay2) x _ _ (by omega) (by omega)

theorem cum_next (c : Dev nD) (t : Fin cfg0.N) (h : ¬ t.val % 4 = 0) (y : S1024x128.Idx) :
    (outsAt0 m c t.val t.isLt).2.1 y = upto (logits m c t) (iblk m c 2 t) (outsAt0 m c (t.val - 1) (Nat.lt_of_le_of_lt (Nat.sub_le _ _) t.isLt)).2.2 (y 1) ((y 0).val + 1) := by
  rw [outsAt0_B m c t h]
  frame_out
  rw [scratch_read]
  canon_tiles x h
  case piece0 => exact tile _ _ _ _ _ (slab7 (logits m c t) (iblk m c 2 t) _) x _ _ (by omega) (by omega)
  case piece1 => exact tile _ _ _ _ _ (slab6 (logits m c t) (iblk m c 2 t) _) x _ _ (by omega) (by omega)
  case piece2 => exact tile _ _ _ _ _ (slab5 (logits m c t) (iblk m c 2 t) _) x _ _ (by omega) (by omega)
  case piece3 => exact tile _ _ _ _ _ (slab4 (logits m c t) (iblk m c 2 t) _) x _ _ (by omega) (by omega)
  case piece4 => exact tile _ _ _ _ _ (slab3 (logits m c t) (iblk m c 2 t) _) x _ _ (by omega) (by omega)
  case piece5 => exact tile _ _ _ _ _ (slab2 (logits m c t) (iblk m c 2 t) _) x _ _ (by omega) (by omega)
  case piece6 => exact tile _ _ _ _ _ (slab1 (logits m c t) (iblk m c 2 t) _) x _ _ (by omega) (by omega)
  case piece7 => exact tile _ _ _ _ _ (slab0 (logits m c t) (iblk m c 2 t) _) x _ _ (by omega) (by omega)

theorem carried (Y : FVec Ideal S128x128 .f32) (l : Fin 128) : k0_pay1 (F := Ideal) Y (ix2 0 l) = Y (ix2 127 l) := by
  pointwise [k0_pay1]

theorem carry_first (c : Dev nD) (t : Fin cfg0.N) (h : t.val % 4 = 0) (l : Fin 128) :
    (outsAt0 m c t.val t.isLt).2.2 (ix2 0 l) = upto (logits m c t) (iblk m c 2 t) k0_pay2 l 1024 := by
  rw [outsAt0_A m c t h]
  frame_out
  exact (carried _ l).trans (slab7 (logits m c t) (iblk m c 2 t) k0_pay2 127 l)

theorem carry_next (c : Dev nD) (t : Fin cfg0.N) (h : ¬ t.val % 4 = 0) (l : Fin 128) :
    (outsAt0 m c t.val t.isLt).2.2 (ix2 0 l)
      = upto (logits m c t) (iblk m c 2 t) (outsAt0 m c (t.val - 1) (Nat.lt_of_le_of_lt (Nat.sub_le _ _) t.isLt)).2.2 l 1024 := by
  rw [outsAt0_B m c t h]
  frame_out
  rw [scratch_read]
  exact (carried _ l).trans (slab7 (logits m c t) (iblk m c 2 t) _ 127 l)

end Cert.ProjScan

end
-- ==== Proof.ProjSum.lean ====
/- The running sums of the projection kernel over a whole sequence: what one block hands to the next. -/
module

public import proofs.«01_k».proof.Proof.ProjScan

@[expose] public section

set_option maxRecDepth 16384

noncomputable section

namespace Cert.ProjSum

open Idealize.ShloMosaic Idealize.ShloMosaic.TcCoe Idealize.SL.Sem
open Idealize.ShloMosaic.Pipeline (Dat)
open Cert.Kernel3Ideal Cert.Kernel3Ideal.Gen
open Cert.ProjScan

variable (m : (ℓ : Loc nD τ sig) → Buf (Elt Ideal) ℓ)

/-- The logarithms of the gates of one head in sequence `q`, in the order of the tokens. -/
def gates (c : Dev nD) (q : ℕ) (l : Fin 128) (i : ℕ) : EReal :=
  if h : 4 * q + i / 1024 < cfg0.N then
    logs (logits m c ⟨4 * q + i / 1024, h⟩) (iblk m c 2 ⟨4 * q + i / 1024, h⟩) l (i % 1024)
  else 0

theorem gates_block (c : Dev nD) (t : Fin cfg0.N) (l : Fin 128) (i : ℕ) (hi : i < 1024) :
    gates m c (t.val / 4) l (1024 * (t.val % 4) + i) = logs (logits m c t) (iblk m c 2 t) l i := by
  have e : 4 * (t.val / 4) + (1024 * (t.val % 4) + i) / 1024 = t.val := by omega
  have e' : (1024 * (t.val % 4) + i) % 1024 = i := by omega
  have key : ∀ (u : ℕ) (j : ℕ) (hu : u = t.val) (hj : j = i), (if h : u < cfg0.N then
      logs (logits m c ⟨u, h⟩) (iblk m c 2 ⟨u, h⟩) l j else 0) = logs (logits m c t) (iblk m c 2 t) l i := by
    rintro u j rfl rfl
    rw [dif_pos t.isLt]
  exact key _ _ e e'

theorem gates_sum (c : Dev nD) (t : Fin cfg0.N) (l : Fin 128) (n : ℕ) (hn : n ≤ 1024) :
    ∑ i ∈ Finset.range (1024 * (t.val % 4) + n), gates m c (t.val / 4) l i
      = ∑ i ∈ Finset.range (1024 * (t.val % 4)), gates m c (t.val / 4) l i
        + ∑ i ∈ Finset.range n, logs (logits m c t) (iblk m c 2 t) l i := by
  rw [Finset.sum_range_add]
  congr 1
  refine Finset.sum_congr rfl fun i hi => gates_block m c t l i ?_
  have := Finset.mem_range.mp hi
  omega

theorem zero_at (l : Fin 128) : k0_pay2 (F := Ideal) (ix2 0 l) = 0 := by
  pointwise [k0_pay2]

/-- The row a block leaves: the sums over the sequence so far. -/
theorem carry (c : Dev nD) (l : Fin 128) : ∀ (n : ℕ) (hn : n < cfg0.N),
    (outsAt0 m c n hn).2.2 (ix2 0 l) = ∑ i ∈ Finset.range (1024 * (n % 4) + 1024), gates m c (n / 4) l i := by
  intro n
  induction n with
  | zero =>
    intro hn
    rw [carry_first m c ⟨0, hn⟩ rfl l, upto, zero_at, gates_sum m c ⟨0, hn⟩ l 1024 le_rfl]
    rfl
  | succ n ih =>
    intro hn
    by_cases h : (n + 1) % 4 = 0
    · rw [carry_first m c ⟨n + 1, hn⟩ h l, upto, zero_at, gates_sum m c ⟨n + 1, hn⟩ l 1024 le_rfl]
      simp only [h, Nat.mul_zero, Finset.sum_range_zero]
    · rw [carry_next m c ⟨n + 1, hn⟩ h l, upto, gates_sum m c ⟨n + 1, hn⟩ l 1024 le_rfl]
      congr 1
      refine (ih (Nat.lt_of_succ_lt hn)).trans ?_
      have e : n / 4 = (n + 1) / 4 := by omega
      have e' : 1024 * (n % 4) + 1024 = 1024 * ((n + 1) % 4) := by omega
      rw [e, e']

/-- The second result's block at every point: the sums over the sequence up to each token. -/
theorem cum (c : Dev nD) (t : Fin cfg0.N) (y : S1024x128.Idx) :
    (outsAt0 m c t.val t.isLt).2.1 y
      = ∑ i ∈ Finset.range (1024 * (t.val % 4) + ((y 0).val + 1)), gates m c (t.val / 4) (y 1) i := by
  idx_vars y
  refine Eq.trans ?_ (gates_sum m c t y1 (y0.val + 1) (by omega)).symm
  by_cases h : t.val % 4 = 0
  · refine (cum_first m c t h (ix2 y0 y1)).trans ?_
    show k0_pay2 (F := Ideal) (ix2 0 y1) + ∑ i ∈ Finset.range (y0.val + 1), _ = _
    rw [zero_at]
    simp only [h, Nat.mul_zero, Finset.sum_range_zero]
    rfl
  · refine (cum_next m c t h (ix2 y0 y1)).trans ?_
    unfold upto
    refine congrArg (· + _) ?_
    refine (carry m c y1 (t.val - 1) _).trans ?_
    have e : (t.val - 1) / 4 = t.val / 4 := by omega
    have e' : 1024 * ((t.val - 1) % 4) + 1024 = 1024 * (t.val % 4) := by omega
    rw [e, e']

end Cert.ProjSum

end
-- ==== Proof.ProjRead.lean ====
/- What the blocks of the projection kernel's arguments hold. -/
module

public import proofs.«01_k».proof.Proof.Gen.Kernel3Ideal.Frame
public import proofs.«01_k».proof.Proof.ProjRow
public import Idealize.ShloMosaic.Lib.Pointwise
public import Idealize.ShloMosaic.Lib.Pipeline.ValueKit

@[expose] public section

set_option maxRecDepth 16384

noncomputable section

namespace Cert.ProjRead

open Idealize.ShloMosaic Idealize.ShloMosaic.TcCoe Idealize.SL.Sem
open Idealize.ShloMosaic.Pipeline (Dat)
open Cert.Kernel3Ideal Cert.Kernel3Ideal.Gen
open Cert.ProjRow (src)

variable (m : (ℓ : Loc nD τ sig) → Buf (Elt Ideal) ℓ)

/-- Where each window's block lies. -/
theorem idx : ∀ t : Fin cfg0.N, win0_0.index t = ![t.val, 0] ∧ win0_1.index t = ![0, 0] ∧ win0_2.index t = ![0, 0]
    ∧ win0_3.index t = ![t.val / 4, 0, t.val % 4, 0] ∧ win0_4.index t = ![t.val, 0] :=
  (by decide +kernel : ∀ t : Fin grid0.N, _)

/-- The sequence and the position of a block's row. -/
def batch (t : Fin cfg0.N) : Fin 8 := ⟨t.val / 4, by have h : t.val < 32 := t.isLt; omega⟩

def pos (t : Fin cfg0.N) (r : Fin 1024) : Fin 4096 := ⟨1024 * (t.val % 4) + r.val, by omega⟩

theorem read0 (c : Dev nD) (t : Fin cfg0.N) (r k : Fin 1024) :
    iblk m c 0 t (ix2 r k) = m ((c : Thread nD τ).loc main_arg0) (ix3 (batch t) (pos t r) k) := by
  blk_simp [iblk]
  simp only [V, V0, hostOps0, List.flatten_cons, List.flatten_nil, List.append_nil, List.cons_append, List.nil_append]
  entry_read
  pointwise
  have h : t.val < 32 := t.isLt
  change m ((c : Thread nD τ).loc main_arg0) _ = _
  blk_ext [idx t, batch, pos]

/-- The kernel's weights: the model's columns in the kernel's order, the forget gates' last. -/
def packed (x : FVec Ideal S1024x3080 .f32) : FVec Ideal S1024x3200 .f32 :=
  concatenate S1024x3200 1 [
    ⟨S1024x512, extractStridedSlice S1024x512 ![0, 0] x slices_S1024x3080_S1024x512_0_0⟩,
    ⟨S1024x512, extractStridedSlice S1024x512 ![0, 512] x slices_S1024x3080_S1024x512_0_512⟩,
    ⟨S1024x512, extractStridedSlice S1024x512 ![0, 1024] x slices_S1024x3080_S1024x512_0_1024⟩,
    ⟨S1024x512, extractStridedSlice S1024x512 ![0, 1544] x slices_S1024x3080_S1024x512_0_1544⟩,
    ⟨S1024x512, extractStridedSlice S1024x512 ![0, 2056] x slices_S1024x3080_S1024x512_0_2056⟩,
    ⟨S1024x512, extractStridedSlice S1024x512 ![0, 2568] x slices_S1024x3080_S1024x512_0_2568⟩,
    ⟨S1024x128, concatenate S1024x128 1 [⟨S1024x8, extractStridedSlice S1024x8 ![0, 1536] x slices_S1024x3080_S1024x8_0_1536⟩,
      ⟨S1024x120, broadcastInDim S1024x120 ![] bcast_S_S1024x120 (constant (F := Ideal) S_ .f32 0x00000000#32)⟩]
      concatenates_S1024x8_S1024x120_S1024x128_d1⟩]
    concatenates_S1024x512_S1024x512_S1024x512_S1024x512_S1024x512_S1024x512_S1024x128_S1024x3200_d1

theorem packed_plain (x : FVec Ideal S1024x3080 .f32) (k : Fin 1024) (f : Fin 3072) :
    packed x (ix2 k (⟨f.val, by omega⟩ : Fin 3200)) = x (ix2 k (src f)) := by
  pointwise [packed]
  have hs : (src f).val = if f.val < 1536 then f.val else f.val + 8 := by unfold src; split <;> rfl
  split at hs
  all_goals
    repeat' split
    all_goals first
      | (exfalso; omega)
      | (refine congrArg (fun j => x (ix2 k j)) (Fin.ext ?_)
         dsimp only
         omega)

theorem packed_gate (x : FVec Ideal S1024x3080 .f32) (k : Fin 1024) (l : Fin 8) :
    packed x (ix2 k (⟨3072 + l.val, by omega⟩ : Fin 3200)) = x (ix2 k (⟨1536 + l.val, by omega⟩ : Fin 3080)) := by
  pointwise [packed]
  repeat' split
  all_goals first
    | (exfalso; omega)
    | (refine congrArg (fun j => x (ix2 k j)) (Fin.ext ?_)
       dsimp only
       omega)

theorem pieces {a b c d e f a' b' c' d' e' f' : FVec Ideal S1024x512 .f32} {g g' : FVec Ideal S1024x128 .f32} (ha : a = a')
    (hb : b = b') (hc : c = c') (hd : d = d') (he : e = e') (hf : f = f') (hg : g = g') :
    concatenate S1024x3200 1 [⟨S1024x512, a⟩, ⟨S1024x512, b⟩, ⟨S1024x512, c⟩, ⟨S1024x512, d⟩, ⟨S1024x512, e⟩, ⟨S1024x512, f⟩,
        ⟨S1024x128, g⟩] concatenates_S1024x512_S1024x512_S1024x512_S1024x512_S1024x512_S1024x512_S1024x128_S1024x3200_d1
      = concatenate S1024x3200 1 [⟨S1024x512, a'⟩, ⟨S1024x512, b'⟩, ⟨S1024x512, c'⟩, ⟨S1024x512, d'⟩, ⟨S1024x512, e'⟩,
        ⟨S1024x512, f'⟩, ⟨S1024x128, g'⟩]
        concatenates_S1024x512_S1024x512_S1024x512_S1024x512_S1024x512_S1024x512_S1024x128_S1024x3200_d1 := by
  rw [ha, hb, hc, hd, he, hf, hg]

theorem weights (c : Dev nD) :
    V m c main_v11 = truncf .bf16 (packed (m ((c : Thread nD τ).loc main_arg1))) bitsLt_bf16_f32 := by
  simp only [V, V0, hostOps0, List.flatten_cons, List.flatten_nil, List.append_nil, List.cons_append, List.nil_append,
    StableHlo.after_cons, StableHlo.after_nil]
  rw [StableHlo.reshape_result_ne]; rotate_left; decide
  rw [StableHlo.binary_result_ne]; rotate_left; decide
  rw [StableHlo.unary_result_ne]; rotate_left; decide
  rw [StableHlo.nullary_result_ne]; rotate_left; decide
  rw [StableHlo.unary_result, StableHlo.nary_result]
  refine congrArg (fun y => truncf .bf16 y bitsLt_bf16_f32) ?_
  unfold packed
  refine pieces ?_ ?_ ?_ ?_ ?_ ?_ ?_
  · show HloOp.result _ _ (Proc.devRef .tc main_v1) = _
    after_results_simp
    try rfl
  · show HloOp.result _ _ (Proc.devRef .tc main_v2) = _
    after_results_simp
    try rfl
  · show HloOp.result _ _ (Proc.devRef .tc main_v3) = _
    after_results_simp
    try rfl
  · show HloOp.result _ _ (Proc.devRef .tc main_v5) = _
    after_results_simp
    try rfl
  · show HloOp.result _ _ (Proc.devRef .tc main_v6) = _
    after_results_simp
    try rfl
  · show HloOp.result _ _ (Proc.devRef .tc main_v7) = _
    after_results_simp
    try rfl
  · show HloOp.result _ _ (Proc.devRef .tc main_v9) = _
    after_results_simp
    try rfl

theorem read1 (c : Dev nD) (t : Fin cfg0.N) (k : Fin 1024) (f : Fin 3200) :
    iblk m c 1 t (ix2 k f) = packed (m ((c : Thread nD τ).loc main_arg1)) (ix2 k f) := by
  blk_simp [iblk]
  rw [weights]
  blk_ext [idx t]

/-- The forget gates' biases, padded to a row. -/
def padded (x : FVec Ideal S8 .f32) : FVec Ideal S1x128 .f32 :=
  shapeCast S1x128 (concatenate S128 0 [⟨S8, x⟩,
    ⟨S120, broadcastInDim S120 ![] bcast_S_S120 (constant (F := Ideal) S_ .f32 0x00000000#32)⟩]
    concatenates_S8_S120_S128_d0) shapeCasts_S128_S1x128

theorem padded_at (x : FVec Ideal S8 .f32) (l : Fin 8) :
    padded x (ix2 (0 : Fin 1) (⟨l.val, by omega⟩ : Fin 128)) = x (ix1 l) := by
  pointwise [padded]

theorem biases (c : Dev nD) : V m c main_v14 = padded (m ((c : Thread nD τ).loc main_arg2)) := by
  simp only [V, V0, hostOps0, List.flatten_cons, List.flatten_nil, List.append_nil, List.cons_append, List.nil_append]
  entry_read
  rfl

theorem read2 (c : Dev nD) (t : Fin cfg0.N) (l : Fin 128) :
    iblk m c 2 t (ix2 (0 : Fin 1) l) = padded (m ((c : Thread nD τ).loc main_arg2)) (ix2 (0 : Fin 1) l) := by
  blk_simp [iblk]
  rw [biases]
  blk_ext [idx t]

end Cert.ProjRead

end
-- ==== Proof.ProjArray.lean ====
/- What the projection kernel leaves in its two results. -/
module

public import proofs.«01_k».proof.Proof.ProjBlock
public import proofs.«01_k».proof.Proof.ProjSum
public import proofs.«01_k».proof.Proof.ProjRead
public import Idealize.ShloMosaic.Lib.Pipeline.ValueKit

@[expose] public section

set_option maxRecDepth 16384

noncomputable section

namespace Cert.ProjArray

open Idealize.ShloMosaic Idealize.ShloMosaic.TcCoe Idealize.SL.Sem
open Idealize.ShloMosaic.Pipeline (Dat)
open Cert.Kernel3Ideal Cert.Kernel3Ideal.Gen
open Cert.ProjRead (batch pos)

variable (m : (ℓ : Loc nD τ sig) → Buf (Elt Ideal) ℓ)

/-- The arguments of a device, by their coordinates. -/
def x (c : Dev nD) (b : Fin 8) (s : Fin 4096) (k : Fin 1024) : EReal := m ((c : Thread nD τ).loc main_arg0) (ix3 b s k)
def w (c : Dev nD) (k : Fin 1024) (f : Fin 3080) : EReal := m ((c : Thread nD τ).loc main_arg1) (ix2 k f)
def bf (c : Dev nD) (h : Fin 8) : EReal := m ((c : Thread nD τ).loc main_arg2) (ix1 h)

theorem dot_plain (c : Dev nD) (t : Fin cfg0.N) (r : Fin 1024) (f : Fin 3072) :
    ProjBlock.dot (iblk m c 0 t) (iblk m c 1 t) r ⟨f.val, by omega⟩
      = ProjRow.proj (x m c) (w m c) (batch t) (pos t r) (ProjRow.src f) := by
  refine Finset.sum_congr rfl fun k _ => ?_
  rw [ProjRead.read0, ProjRead.read1, ProjRead.packed_plain]
  rfl

theorem dot_gate (c : Dev nD) (t : Fin cfg0.N) (r : Fin 1024) (h : Fin 8) :
    ProjBlock.dot (iblk m c 0 t) (iblk m c 1 t) r ⟨3072 + h.val, by omega⟩
      = ProjRow.proj (x m c) (w m c) (batch t) (pos t r) ⟨1536 + h.val, by omega⟩ := by
  refine Finset.sum_congr rfl fun k _ => ?_
  rw [ProjRead.read0, ProjRead.read1, ProjRead.packed_gate]
  rfl

/-! ## The groups of columns -/

def groups (c : Dev nD) : FVec Ideal S8x24x4096x128 .bf16 := fun i =>
  ProjRow.qkv (x m c) (w m c) (i 0) (i 1) (i 2) (i 3)

theorem group_at (c : Dev nD) (t : Fin cfg0.N) (n : Fin 24) (r : Fin 1024) (l : Fin 128) :
    ProjBlock.group (iblk m c 0 t) (iblk m c 1 t) n r l = ProjRow.qkv (x m c) (w m c) (batch t) n (pos t r) l := by
  have e := dot_plain m c t r ⟨n.val * 128 + l.val, by omega⟩
  unfold ProjBlock.group ProjRow.qkv
  rw [e]
  rfl

theorem groups_place (t : Fin cfg0.N) (y0 : Fin 1) (n : Fin 24) (r : Fin 1024) (l : Fin 128) :
    (((View.whole main_v15_0).slice (win0_3.rect t)).emb (ix4 y0 n r l) : S8x24x4096x128.Idx) = ix4 (batch t) n (pos t r) l := by
  have h : t.val < 32 := t.isLt
  blk_ext [ProjRead.idx t, batch, pos]

theorem final3 (c : Dev nD) : (dats m 0 c).arrAt 3 (cfgs 0).N = groups m c := by
  refine (dats m 0 c).arrAt_eq_of_covers 3 _ (by decide +kernel) fun t _ y => ?_
  blk_simp
  rw [after0_3]
  idx_vars y
  rw [groups_place t y0 y1 y2 y3]
  exact (ProjBlock.groups m c t (ix4 y0 y1 y2 y3)).trans (group_at m c t y1 y2 y3)

/-! ## The running sums -/

/-- One running sum over all 128 lanes, of which the heads are the first eight. -/
def sums (c : Dev nD) : FVec Ideal S32768x128 .f32 := fun i =>
  ∑ k ∈ Finset.range ((i 0).val % 4096 + 1), ProjSum.gates m c ((i 0).val / 4096) (i 1) k

theorem sums_place (t : Fin cfg0.N) (r : Fin 1024) (l : Fin 128) :
    (((View.whole main_v15_1).slice (win0_4.rect t)).emb (ix2 r l) : S32768x128.Idx)
      = ix2 (⟨t.val * 1024 + r.val, by have h : t.val < 32 := t.isLt; omega⟩ : Fin 32768) l := by
  blk_ext [ProjRead.idx t]

theorem final4 (c : Dev nD) : (dats m 0 c).arrAt 4 (cfgs 0).N = sums m c := by
  refine (dats m 0 c).arrAt_eq_of_covers 4 _ (by decide +kernel) fun t _ y => ?_
  blk_simp
  rw [after0_4]
  idx_vars y
  rw [sums_place t y0 y1]
  refine (ProjSum.cum m c t (ix2 y0 y1)).trans ?_
  have e1 : (t.val * 1024 + y0.val) % 4096 + 1 = 1024 * (t.val % 4) + (y0.val + 1) := by omega
  have e2 : (t.val * 1024 + y0.val) / 4096 = t.val / 4 := by omega
  show _ = ∑ k ∈ Finset.range ((t.val * 1024 + y0.val) % 4096 + 1), ProjSum.gates m c ((t.val * 1024 + y0.val) / 4096) y1 k
  rw [e1, e2]
  rfl

/-- The logarithm of a head's gate at a token. -/
theorem gates_at (c : Dev nD) (b : Fin 8) (h : Fin 8) (i : ℕ) (hi : i < 4096) :
    ProjSum.gates m c b.val ⟨h.val, by omega⟩ i
      = ProjRow.gate (ProjRow.proj (x m c) (w m c) b ⟨i, hi⟩ ⟨1536 + h.val, by omega⟩ + bf m c h) := by
  have hN : 4 * b.val + i / 1024 < cfg0.N := by
    show 4 * b.val + i / 1024 < 32
    omega
  have hr : i % 1024 < 1024 := Nat.mod_lt _ (by omega)
  have eb : batch ⟨4 * b.val + i / 1024, hN⟩ = b := Fin.ext (by show (4 * b.val + i / 1024) / 4 = b.val; omega)
  have es : pos ⟨4 * b.val + i / 1024, hN⟩ ⟨i % 1024, hr⟩ = ⟨i, hi⟩ :=
    Fin.ext (by show 1024 * ((4 * b.val + i / 1024) % 4) + i % 1024 = i; omega)
  unfold ProjSum.gates
  rw [dif_pos hN, ProjScan.logs, dif_pos hr, ProjRead.read2, ProjRead.padded_at]
  refine congrArg (fun z => ProjRow.gate (z + _)) ?_
  have e := dot_gate m c ⟨4 * b.val + i / 1024, hN⟩ ⟨i % 1024, hr⟩ h
  rw [eb, es] at e
  rw [← e]
  unfold ProjScan.logits
  pointwise [k0_pay31]
  exact ProjBlock.product _ _ _ _

theorem sum_at (c : Dev nD) (b : Fin 8) (s : Fin 4096) (h : Fin 8) :
    sums m c (ix2 (⟨b.val * 4096 + s.val, by omega⟩ : Fin 32768) (⟨h.val, by omega⟩ : Fin 128))
      = ProjRow.cum (x m c) (w m c) (bf m c) b s h := by
  have e1 : (b.val * 4096 + s.val) % 4096 = s.val := by omega
  have e2 : (b.val * 4096 + s.val) / 4096 = b.val := by omega
  show ∑ k ∈ Finset.range ((b.val * 4096 + s.val) % 4096 + 1),
    ProjSum.gates m c ((b.val * 4096 + s.val) / 4096) ⟨h.val, _⟩ k = _
  rw [e1, e2]
  refine Finset.sum_congr rfl fun i hi => ?_
  have hi' : i < 4096 := by have := Finset.mem_range.mp hi; omega
  rw [dif_pos hi']
  exact gates_at m c b h i hi'

end Cert.ProjArray

end
-- ==== Proof.ProjRef.lean ====
/- The projection's reference, entry by entry: the scaled groups of columns and the running sums of the gates. -/
module

public import proofs.«01_k».proof.Proof.Gen.Reference3Ideal.Run
public import proofs.«01_k».proof.Proof.ProjRow
public import Idealize.ShloMosaic.Lib.Pointwise

@[expose] public section

set_option maxRecDepth 16384

noncomputable section

namespace Cert.ProjRef

open Idealize.ShloMosaic Idealize.ShloMosaic.TcCoe
open Cert.Reference3Ideal Cert.Reference3Ideal.Gen Cert.ProjRow

/-! ## A running sum -/

theorem foldl_sum {α : Type} (g : α → EReal) (l : List α) (v : EReal) :
    l.foldl (fun r n => r + g n) v = v + (l.map g).sum := by
  induction l generalizing v with
  | nil => rw [List.foldl_nil, List.map_nil, List.sum_nil, add_zero]
  | cons a l ih => rw [List.foldl_cons, ih, List.map_cons, List.sum_cons, add_assoc]

theorem windowSum {s t u : Shape} (window strides lo hi : Fin s.rank → ℕ) (x : FVec Ideal s .f32) (init : FVec Ideal u .f32)
    (h : s.ReduceWindows window strides lo hi t) (hu : 0 < u.numel) (j : t.Idx) :
    Host.reduceWindowAdd window strides lo hi x init h hu j
      = init (Shape.Idx.first hu) + ∑ w : (⟨s.rank, window⟩ : Shape).Idx,
          if hin : ∀ a, lo a ≤ (j (a.cast h.1.symm)).val * strides a + (w a).val
              ∧ (j (a.cast h.1.symm)).val * strides a + (w a).val - lo a < s.size a
          then x (fun a => ⟨(j (a.cast h.1.symm)).val * strides a + (w a).val - lo a, (hin a).2⟩)
          else init (Shape.Idx.first hu) := by
  refine (foldl_sum _ _ _).trans ?_
  refine congrArg (init (Shape.Idx.first hu) + ·) ?_
  refine (Fin.sum_univ_def _).symm.trans ?_
  refine Eq.trans (Finset.sum_congr rfl fun n _ => ?_) (Equiv.sum_comp (⟨s.rank, window⟩ : Shape).rowMajor.symm (fun w : (⟨s.rank, window⟩ : Shape).Idx =>
    if hin : ∀ a, lo a ≤ (j (a.cast h.1.symm)).val * strides a + (w a).val
        ∧ (j (a.cast h.1.symm)).val * strides a + (w a).val - lo a < s.size a
    then x (fun a => ⟨(j (a.cast h.1.symm)).val * strides a + (w a).val - lo a, (hin a).2⟩)
    else init (Shape.Idx.first hu)))
  exact dite_congr rfl (fun _ => rfl) (fun _ => rfl)

section Running

variable {B N H L : ℕ}

/-- An index of the window of a running sum along the middle axis. -/
def winAt (k : Fin N) : (⟨3, ![1, N, 1]⟩ : Shape).Idx := ix3 (0 : Fin 1) k (0 : Fin 1)

theorem winAt_bijective : Function.Bijective (winAt (N := N)) := by
  refine ⟨fun a b h => congrFun h 1, fun i => ⟨i 1, ?_⟩⟩
  funext a
  match a with
  | ⟨0, _⟩ => exact Subsingleton.elim (α := Fin 1) _ _
  | ⟨1, _⟩ => rfl
  | ⟨2, _⟩ => exact Subsingleton.elim (α := Fin 1) _ _

theorem shifted (hL : L + 1 = N) (F : ℕ → EReal) (s : ℕ) (hs : s < N) :
    ∑ k : Fin N, (if L ≤ s + k.val then F (s + k.val - L) else 0) = ∑ i ∈ Finset.range (s + 1), F i := by
  rw [Fin.sum_univ_eq_sum_range (fun k => if L ≤ s + k then F (s + k - L) else 0) N, ← Finset.sum_filter]
  refine Finset.sum_nbij' (fun k => s + k - L) (fun i => i + L - s) ?_ ?_ ?_ ?_ ?_
  · intro k hk
    have := Finset.mem_filter.mp hk
    have h1 := Finset.mem_range.mp this.1
    exact Finset.mem_range.mpr (by omega)
  · intro i hi
    have h1 := Finset.mem_range.mp hi
    exact Finset.mem_filter.mpr ⟨Finset.mem_range.mpr (by omega), by omega⟩
  · intro k hk
    have := Finset.mem_filter.mp hk
    omega
  · intro i hi
    have h1 := Finset.mem_range.mp hi
    omega
  · intro k hk
    rfl

theorem runningSum {u : Shape} (hL : L + 1 = N) (x : FVec Ideal (⟨3, ![B, N, H]⟩ : Shape) .f32) (v : FVec Ideal u .f32)
    (h : (⟨3, ![B, N, H]⟩ : Shape).ReduceWindows (![1, N, 1] : Fin 3 → ℕ) ![1, 1, 1] ![0, L, 0] ![0, 0, 0] ⟨3, ![B, N, H]⟩)
    (hu : 0 < u.numel) (hv : v (Shape.Idx.first hu) = 0) (b : Fin B) (s : Fin N) (n : Fin H) :
    Host.reduceWindowAdd ![1, N, 1] ![1, 1, 1] ![0, L, 0] ![0, 0, 0] x v h hu (ix3 b s n)
      = ∑ i ∈ Finset.range (s.val + 1), if hi : i < N then x (ix3 b ⟨i, hi⟩ n) else 0 := by
  have hs := s.isLt
  have hb := b.isLt
  have hn := n.isLt
  rw [windowSum, hv, zero_add]
  refine (winAt_bijective.sum_comp _).symm.trans ?_
  rw [← shifted hL _ s.val s.isLt]
  refine Finset.sum_congr rfl fun k _ => ?_
  have hk' := k.isLt
  by_cases hk : L ≤ s.val + k.val
  · have hin : s.val + k.val - L < N := by omega
    rw [if_pos hk, dif_pos hin, dif_pos]
    · refine congrArg x (funext fun a => Fin.ext ?_)
      match a with
      | ⟨0, _⟩ => show b.val * 1 + 0 - 0 = b.val; omega
      | ⟨1, _⟩ => show s.val * 1 + k.val - L = s.val + k.val - L; omega
      | ⟨2, _⟩ => show n.val * 1 + 0 - 0 = n.val; omega
    · intro a
      match a with
      | ⟨0, _⟩ => show 0 ≤ b.val * 1 + 0 ∧ b.val * 1 + 0 - 0 < B; omega
      | ⟨1, _⟩ => show L ≤ s.val * 1 + k.val ∧ s.val * 1 + k.val - L < N; omega
      | ⟨2, _⟩ => show 0 ≤ n.val * 1 + 0 ∧ n.val * 1 + 0 - 0 < H; omega
  · rw [if_neg hk, dif_neg]
    intro hin
    have h1 : L ≤ s.val * 1 + k.val ∧ s.val * 1 + k.val - L < N := hin 1
    omega

end Running

/-! ## The logarithm of a gate -/

/-- The logarithm of the logistic function as the reference writes it. -/
theorem gate_ref (z : EReal) :
    -(Scalar.select (FloatOps.cmpf (F := Ideal) (φ := .f32) .une (-z - 0) (-z - 0)) (-z + 0)
      (max (-z) 0 + Ideal.log1p (Ideal.exp (-(max (-z - 0) (-(-z - 0))))))) = gate z := by
  have hc : ∀ y : EReal, FloatOps.cmpf (F := Ideal) (φ := .f32) .une y y = 0#1 := fun y => by
    show Ideal.cmp .une y y = 0#1
    simp [Ideal.cmp]
  have l0 : Ideal.log1p 0 = 0 := by
    have := log1p_coe 0 le_rfl
    rwa [EReal.coe_zero, add_zero, Real.log_one, EReal.coe_zero] at this
  rw [hc, ValueIdx.select_zero]
  induction z using EReal.rec with
  | bot => rw [gate_bot]; simp [l0]
  | top => rw [gate_top]; simp [l0]
  | coe z =>
    rw [gate_coe, ← EReal.coe_neg, ← EReal.coe_zero, ← EReal.coe_sub, ← EReal.coe_neg, ← EReal.coe_strictMono.monotone.map_max,
      ← EReal.coe_strictMono.monotone.map_max, ← EReal.coe_neg, Ideal.exp_coe, log1p_coe _ (Real.exp_pos _).le,
      ← EReal.coe_add, ← EReal.coe_neg]
    have e : max (-z - 0) (-(-z - 0)) = |z| := by rw [sub_zero, neg_neg, max_comm]; rfl
    rw [e]
    congr 1
    rcases le_total z 0 with h | h
    · rw [max_eq_left (by linarith), min_eq_left h]; ring
    · rw [max_eq_right (by linarith), min_eq_right h]; ring

/-! ## The two results -/

section Results

variable (X : FVec Ideal S8x4096x1024 .f32) (W : FVec Ideal S1024x3080 .f32) (bf : FVec Ideal S8 .f32)

/-- The projection. -/
def product : FVec Ideal S8x4096x3080 .f32 :=
  Host.dotGeneral dot_S8x4096x1024_S1024x3080_S8x4096x3080_2_0_01_1_n_n none X W

theorem product_at (b : Fin 8) (s : Fin 4096) (f : Fin 3080) :
    product X W (ix3 b s f) = proj (fun b s k => X (ix3 b s k)) (fun k f => W (ix2 k f)) b s f := by
  pointwise [product]
  rfl

/-- The columns of the queries, keys and values side by side. -/
def columns (P : FVec Ideal S8x4096x3080 .f32) : FVec Ideal S8x4096x3072 .f32 :=
  concatenate S8x4096x3072 2 [
    ⟨S8x4096x512, mulf (extractStridedSlice S8x4096x512 ![0, 0, 0] P slices_S8x4096x3080_S8x4096x512_0_0_0)
      (broadcastInDim S8x4096x512 ![] bcast_S_S8x4096x512 (constant (F := Ideal) S_ .f32 0x3E38AA3B#32))⟩,
    ⟨S8x4096x512, extractStridedSlice S8x4096x512 ![0, 0, 512] P slices_S8x4096x3080_S8x4096x512_0_0_512⟩,
    ⟨S8x4096x512, extractStridedSlice S8x4096x512 ![0, 0, 1024] P slices_S8x4096x3080_S8x4096x512_0_0_1024⟩,
    ⟨S8x4096x512, mulf (extractStridedSlice S8x4096x512 ![0, 0, 1544] P slices_S8x4096x3080_S8x4096x512_0_0_1544)
      (broadcastInDim S8x4096x512 ![] bcast_S_S8x4096x512 (constant (F := Ideal) S_ .f32 0x3E38AA3B#32))⟩,
    ⟨S8x4096x512, extractStridedSlice S8x4096x512 ![0, 0, 2056] P slices_S8x4096x3080_S8x4096x512_0_0_2056⟩,
    ⟨S8x4096x512, extractStridedSlice S8x4096x512 ![0, 0, 2568] P slices_S8x4096x3080_S8x4096x512_0_0_2568⟩]
    concatenates_S8x4096x512_S8x4096x512_S8x4096x512_S8x4096x512_S8x4096x512_S8x4096x512_S8x4096x3072_d2

theorem columns_at (P : FVec Ideal S8x4096x3080 .f32) (b : Fin 8) (s : Fin 4096) (f : Fin 3072) :
    columns P (ix3 b s f) = if f.val % 1536 < 512 then P (ix3 b s (src f)) * factor else P (ix3 b s (src f)) := by
  have hs : (src f).val = if f.val < 1536 then f.val else f.val + 8 := by unfold src; split <;> rfl
  pointwise [columns]
  change _ = if f.val % 1536 < 512 then P (ix3 b s (src f)) * factor else P (ix3 b s (src f))
  have pull : ∀ (j : ℕ) (hj : j < 3080), j = (src f).val → P (ix3 b s (⟨j, hj⟩ : Fin 3080)) = P (ix3 b s (src f)) :=
    fun j hj e => congrArg (fun g => P (ix3 b s g)) (Fin.ext e)
  split_ifs with h1 h2 h3 h4 h5 h6
  all_goals first
    | (refine Eq.trans ?_ (if_pos (by omega)).symm
       exact congrArg (· * factor) (pull _ _ (by split at hs <;> omega)))
    | (refine Eq.trans ?_ (if_neg (by omega)).symm
       exact pull _ _ (by split at hs <;> omega))

/-- The columns in groups of 128, each group's tokens together. -/
def grouped (Y : FVec Ideal S8x4096x3072 .f32) : FVec Ideal S8x24x4096x128 .bf16 :=
  truncf .bf16 (transpose S8x24x4096x128 [0, 2, 1, 3] (shapeCast S8x4096x24x128 Y shapeCasts_S8x4096x3072_S8x4096x24x128)
    transposes_S8x4096x24x128_S8x24x4096x128_0_2_1_3) bitsLt_bf16_f32

theorem grouped_at (Y : FVec Ideal S8x4096x3072 .f32) (b : Fin 8) (n : Fin 24) (s : Fin 4096) (l : Fin 128) :
    grouped Y (ix4 b n s l) = Y (ix3 b s ⟨n.val * 128 + l.val, by omega⟩) := by
  pointwise [grouped]

/-- The first result. -/
theorem first (b : Fin 8) (n : Fin 24) (s : Fin 4096) (l : Fin 128) : grouped (columns (product X W)) (ix4 b n s l)
    = qkv (fun b s k => X (ix3 b s k)) (fun k f => W (ix2 k f)) b n s l := by
  rw [grouped_at, columns_at, product_at, qkv]
  have e : (n.val * 128 + l.val) % 1536 < 512 ↔ n.val % 12 < 4 := by omega
  simp only [e]

/-- The gates' logits with their signs turned. -/
def turned (P : FVec Ideal S8x4096x3080 .f32) : FVec Ideal S8x4096x8 .f32 :=
  Host.negf (addf (extractStridedSlice S8x4096x8 ![0, 0, 1536] P slices_S8x4096x3080_S8x4096x8_0_0_1536)
    (broadcastInDim S8x4096x8 ![0, 1, 2] bcast_S1x1x8_S8x4096x8_0_1_2 (broadcastInDim S1x1x8 ![2] bcast_S8_S1x1x8_2 bf)))

def zeros : FVec Ideal S8x4096x8 .f32 := broadcastInDim S8x4096x8 ![] bcast_S_S8x4096x8 (constant S_ .f32 0x00000000#32)

/-- The logarithms of the gates, from the turned logits. -/
def logs (N : FVec Ideal S8x4096x8 .f32) : FVec Ideal S8x4096x8 .f32 :=
  Host.negf (select (cmpf .une (subf N zeros) (subf N zeros)) (addf N zeros)
    (addf (maximumf N zeros) (Host.log1p (Host.exp (Host.negf (Host.absf (subf N zeros)))))))

theorem logs_at (N : FVec Ideal S8x4096x8 .f32) (z : EReal) (i : S8x4096x8.Idx) (h : N i = -z) : logs N i = gate z := by
  refine Eq.trans ?_ (gate_ref z)
  rw [← h]
  idx_vars i
  pointwise [logs, zeros]
  rfl

theorem turned_at (P : FVec Ideal S8x4096x3080 .f32) (b : Fin 8) (s : Fin 4096) (h : Fin 8) :
    turned bf P (ix3 b s h) = -(P (ix3 b s (⟨1536 + h.val, by omega⟩ : Fin 3080)) + bf (ix1 h)) := by
  pointwise [turned]

/-- The running sums. -/
def sums (L : FVec Ideal S8x4096x8 .f32) : FVec Ideal S8x4096x8 .f32 :=
  Host.reduceWindowAdd ![1, 4096, 1] ![1, 1, 1] ![0, 4095, 0] ![0, 0, 0] L
    (broadcastInDim S_ ![] bcast_S_S_ (constant S_ .f32 0x00000000#32))
    reduceWindows_S8x4096x8_S8x4096x8_w1s1p0_0_w4096s1p4095_0_w1s1p0_0 h_S_

/-- The second result. -/
theorem second (b : Fin 8) (s : Fin 4096) (h : Fin 8) : sums (logs (turned bf (product X W))) (ix3 b s h)
    = cum (fun b s k => X (ix3 b s k)) (fun k f => W (ix2 k f)) (fun h => bf (ix1 h)) b s h := by
  unfold sums
  rw [runningSum (by omega) _ _ _ _ (by pointwise)]
  refine Finset.sum_congr rfl fun i _ => ?_
  refine dite_congr rfl (fun hi => ?_) (fun _ => rfl)
  refine logs_at _ _ _ ?_
  rw [turned_at, product_at]

end Results

end Cert.ProjRef

end
-- ==== Proof.ProjClaim.lean ====
/- The projection kernel and its reference leave the same results. -/
module

public import proofs.«01_k».proof.Defs
public import proofs.«01_k».proof.Proof.Gen.Kernel3Ideal
public import proofs.«01_k».proof.Proof.Gen.Reference3Ideal
public import proofs.«01_k».proof.Proof.ProjArray
public import proofs.«01_k».proof.Proof.ProjRef

@[expose] public section

set_option maxRecDepth 16384

noncomputable section

namespace Cert.ProjClaim

open Idealize.ShloMosaic Idealize.ShloMosaic.TcCoe Idealize.SL.Sem

/-! ## The reference -/

/-- The reference's results, by its arguments. -/
theorem reference_at (m : (ℓ : Loc Reference3Ideal.nD Reference3Ideal.τ Reference3Ideal.sig) → Buf (Elt Ideal) ℓ)
    (g : Dev Reference3Ideal.nD → PrngReg) :
    θ_run (Reference3Ideal.defs (F := Ideal)) (onTc (τ := Reference3Ideal.τ) (Reference3Ideal.main (F := Ideal)))
      ⟨m, fun _ => 0, g⟩ fun r => ∀ c : Dev Reference3Ideal.nD,
      r.2.mem ((c.tc : Thread Reference3Ideal.nD Reference3Ideal.τ).loc Reference3Ideal.main_v15)
        = ProjRef.grouped (ProjRef.columns (ProjRef.product (m (c.tc.loc Reference3Ideal.main_arg0))
            (m (c.tc.loc Reference3Ideal.main_arg1)))) ∧
      r.2.mem ((c.tc : Thread Reference3Ideal.nD Reference3Ideal.τ).loc Reference3Ideal.main_v20)
        = ProjRef.sums (ProjRef.logs (ProjRef.turned (m (c.tc.loc Reference3Ideal.main_arg2))
            (ProjRef.product (m (c.tc.loc Reference3Ideal.main_arg0)) (m (c.tc.loc Reference3Ideal.main_arg1))))) ∧
      r.2.mem (c.tc.loc Reference3Ideal.main_arg0) = m (c.tc.loc Reference3Ideal.main_arg0) ∧
      r.2.mem (c.tc.loc Reference3Ideal.main_arg1) = m (c.tc.loc Reference3Ideal.main_arg1) ∧
      r.2.mem (c.tc.loc Reference3Ideal.main_arg2) = m (c.tc.loc Reference3Ideal.main_arg2) :=
  Reference3Ideal.Value.run (F := Ideal) m g

/-! ## The kernel -/

section Kernel

open Cert.Kernel3Ideal Cert.Kernel3Ideal.Gen

variable (m : (ℓ : Loc nD τ sig) → Buf (Elt Ideal) ℓ)

/-- What the two operations after the call make of the call's second array. -/
def last (v : FVec Ideal S32768x128 .f32) : FVec Ideal S8x4096x8 .f32 :=
  extractStridedSlice S8x4096x8 ![0, 0, 0]
    (shapeCast S8x4096x128 v shapeCasts_S32768x128_S8x4096x128) slices_S8x4096x128_S8x4096x8_0_0_0

/-- The second result: the running sums of the eight heads. -/
def heads (c : Dev nD) : FVec Ideal S8x4096x8 .f32 :=
  last (ProjArray.sums m c)

theorem heads_at (c : Dev nD) (b : Fin 8) (s : Fin 4096) (h : Fin 8) :
    heads m c (ix3 b s h) = ProjRow.cum (ProjArray.x m c) (ProjArray.w m c) (ProjArray.bf m c) b s h := by
  refine Eq.trans ?_ (ProjArray.sum_at m c b s h)
  pointwise [heads, last]

/-- The call's five arrays are five buffers. -/
theorem arrays_distinct : Function.Injective (Pipeline.arrRef (cfgs 0).spec) := by
  decide

theorem last_of (W : Valuation τ sig (Elt Ideal)) :
    StableHlo.after (List.flatten [hostOps1]) W (Proc.devRef .tc main_v17) = last (W (Proc.devRef .tc main_v15_1)) := by
  simp only [hostOps1, List.flatten_cons, List.flatten_nil, List.append_nil, StableHlo.after_cons, StableHlo.after_nil]
  rw [StableHlo.unary_result, StableHlo.reshape_result]
  rfl

theorem array_at (c : Dev nD) :
    Pipeline.withArrays (cfgs 0).spec c (V0 m c) (fun w => (dats m 0 c).arrAt w (cfgs 0).N) (Proc.devRef .tc main_v15_1)
      = ProjArray.sums m c :=
  (Pipeline.withArrays_arr (cfgs 0).spec arrays_distinct c (V0 m c) (fun w => (dats m 0 c).arrAt w (cfgs 0).N) 4).trans
    (ProjArray.final4 m c)

theorem tail_at (c : Dev nD) :
    Pipeline.afterTail₀ cfgs (dats m) 0 (V0 m) [hostOps1] c main_v17 = heads m c :=
  (last_of _).trans (congrArg last (array_at m c))

/-- The kernel's results, by its arguments. -/
theorem kernel_at (g : Dev nD → PrngReg) :
    θ_run (defs (F := Ideal)) (onTc (τ := τ) (main (F := Ideal))) ⟨m, fun _ => 0, g⟩ fun r => ∀ c : Dev nD,
      r.2.mem ((c.tc : Thread nD τ).loc main_v15_0) = ProjArray.groups m c ∧
      r.2.mem ((c.tc : Thread nD τ).loc main_v17) = heads m c ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) := by
  refine (θ_run _ _ _).mono (fun r h c => ⟨?_, ?_, h.1 c⟩) (θ_run_and (unchanged m g) (run_main m g))
  · exact ((h.2 c).1 3).trans (ProjArray.final3 m c)
  · exact ((h.2 c).2 main_v17 (Pipeline.mem_restRefs_of main_v17 (by decide) (by decide))).trans (tail_at m c)

end Kernel

theorem algebraic : Cert.algebraic_Kernel3Ideal_Reference3Ideal (hKernel3Ideal := Kernel3Ideal.Gen.facts)
    (hReference3Ideal := Reference3Ideal.Gen.facts) := by
  intro m g m' g' _ hag
  refine ⟨fun c => ProjArray.groups m c, fun c => heads m c, kernel_at m g, ?_⟩
  refine (θ_run _ _ _).mono (fun r h c => ⟨(h c).1.trans ?_, (h c).2.1.trans ?_, (h c).2.2⟩) (reference_at m' g')
  all_goals
    obtain ⟨h0, h1, h2⟩ := hag c
    rw [h0, h1]
  · funext i
    idx_vars i
    exact ProjRef.first _ _ i0 i1 i2 i3
  · rw [h2]
    funext i
    idx_vars i
    exact (ProjRef.second _ _ _ i0 i1 i2).trans (heads_at m c i0 i1 i2).symm

end Cert.ProjClaim

end
-- ==== Proof.AbRow.lean ====
/- The first layer's projection as functions of its arguments, entry by entry. -/
module

public import Idealize.ShloMosaic.PureOps.Ideal
public import Idealize.ShloMosaic.Lib.Pointwise

@[expose] public section

noncomputable section

namespace Cert.AbRow

open Idealize.ShloMosaic

/-- The scale of the first attention's queries and of the second's, and the norms' small constant. -/
abbrev scale : EReal := Ideal.ofBits .f32 0x3E16C740#32
abbrev factor : EReal := Ideal.ofBits .f32 0x3E38AA3B#32
abbrev eps : EReal := Ideal.ofBits .f32 0x358637BD#32

/-- The latent rows' lengths. -/
abbrev lenQ : EReal := Ideal.ofBits .f32 0x43C00000#32
abbrev lenK : EReal := Ideal.ofBits .f32 0x43800000#32

/-- A row divided by its root mean square, times the norm's gain. -/
def normed {n : ℕ} (len : EReal) (v g : Fin n → EReal) (i : Fin n) : EReal :=
  v i * Ideal.rsqrt (Ideal.div (∑ j, v j * v j) len + eps) * g i

/-- A head's 128 lanes: 64 lanes as they are, 32 rotated by the position's angles, zeros. -/
def rot (u : Fin 64 → EReal) (r : Fin 32 → EReal) (cs sn : Fin 16 → EReal) (l : Fin 128) : EReal :=
  if h : l.val < 64 then u ⟨l.val, h⟩
  else if h1 : l.val < 80 then
    r ⟨l.val - 64, by omega⟩ * cs ⟨l.val - 64, by omega⟩ - r ⟨l.val - 48, by omega⟩ * sn ⟨l.val - 64, by omega⟩
  else if h2 : l.val < 96 then
    r ⟨l.val - 80, by omega⟩ * sn ⟨l.val - 80, by omega⟩ + r ⟨l.val - 64, by omega⟩ * cs ⟨l.val - 80, by omega⟩
  else 0

/-- The tables the rotation is written with: the factor of a lane, and that of the lane 32 further. -/
def tab1 (e : EReal) (cs : Fin 16 → EReal) (l : Fin 128) : EReal :=
  if h : l.val < 64 then e
  else if h1 : l.val < 80 then cs ⟨l.val - 64, by omega⟩
  else if h2 : l.val < 96 then cs ⟨l.val - 80, by omega⟩
  else 0

def tab2 (sn : Fin 16 → EReal) (l : Fin 128) : EReal :=
  if h : l.val < 64 then 0
  else if h1 : l.val < 80 then -sn ⟨l.val - 64, by omega⟩
  else if h2 : l.val < 96 then sn ⟨l.val - 80, by omega⟩
  else 0

/-- The lane 32 further, around the end. -/
def further (l : Fin 128) : Fin 128 := ⟨(l.val + 32) % 128, Nat.mod_lt _ (by omega)⟩

/-- Lanes with the rotated ones a second time at the end, their halves exchanged. -/
def spread (u : Fin 64 → EReal) (r : Fin 32 → EReal) (l : Fin 128) : EReal :=
  if h : l.val < 64 then u ⟨l.val, h⟩
  else if h1 : l.val < 96 then r ⟨l.val - 64, by omega⟩
  else if h2 : l.val < 112 then r ⟨l.val - 80, by omega⟩
  else r ⟨l.val - 112, by omega⟩

/-- The rotation by the two tables, scaled tables included. -/
theorem rot_scaled (u : Fin 64 → EReal) (r : Fin 32 → EReal) (cs sn : Fin 16 → EReal) (k : EReal) (h0 : 0 ≤ k) (ht : k ≠ ⊤)
    (l : Fin 128) :
    spread u r l * (tab1 1 cs l * k) + spread u r (further l) * (tab2 sn l * k) = rot u r cs sn l * k := by
  have hl := l.isLt
  have add (a b : EReal) : a * k + b * k = (a + b) * k := (EReal.right_distrib_of_nonneg_of_ne_top h0 ht a b).symm
  unfold tab1 tab2 rot
  by_cases h : l.val < 64
  · rw [dif_pos h, dif_pos h, dif_pos h]
    unfold spread
    rw [dif_pos h, one_mul, zero_mul, mul_zero, add_zero]
  rw [dif_neg h, dif_neg h, dif_neg h]
  by_cases h1 : l.val < 80
  · rw [dif_pos h1, dif_pos h1, dif_pos h1]
    have e1 : spread u r l = r ⟨l.val - 64, by omega⟩ := by
      unfold spread
      rw [dif_neg h, dif_pos (by omega)]
    have e2 : spread u r (further l) = r ⟨l.val - 48, by omega⟩ := by
      have ev : (further l).val = l.val + 32 := by show (l.val + 32) % 128 = _; omega
      unfold spread
      rw [dif_neg (by omega), dif_neg (by omega), dif_pos (by omega)]
      exact congrArg r (Fin.ext (by dsimp only; omega))
    rw [e1, e2, ← mul_assoc, ← mul_assoc, add, mul_neg, sub_eq_add_neg]
  rw [dif_neg h1, dif_neg h1, dif_neg h1]
  by_cases h2 : l.val < 96
  · rw [dif_pos h2, dif_pos h2, dif_pos h2]
    have e1 : spread u r l = r ⟨l.val - 64, by omega⟩ := by
      unfold spread
      rw [dif_neg h, dif_pos (by omega)]
    have e2 : spread u r (further l) = r ⟨l.val - 80, by omega⟩ := by
      have ev : (further l).val = l.val + 32 := by show (l.val + 32) % 128 = _; omega
      unfold spread
      rw [dif_neg (by omega), dif_neg (by omega), dif_neg (by omega)]
      exact congrArg r (Fin.ext (by dsimp only; omega))
    rw [e1, e2, ← mul_assoc, ← mul_assoc, add, add_comm]
  rw [dif_neg h2, dif_neg h2, dif_neg h2, zero_mul, mul_zero, mul_zero, add_zero]

/-- The rotation of the shared keys by the two tables, next to a head's own lanes. -/
theorem rot_beside (u v : Fin 64 → EReal) (r : Fin 32 → EReal) (cs sn : Fin 16 → EReal) (l : Fin 128) :
    (if h : l.val < 64 then u ⟨l.val, h⟩ else 0)
        + (spread v r l * tab1 0 cs l + spread v r (further l) * tab2 sn l)
      = rot u r cs sn l := by
  have e := rot_scaled v r cs sn 1 zero_le_one (EReal.coe_ne_top 1) l
  rw [mul_one, mul_one, mul_one] at e
  by_cases h : l.val < 64
  · unfold rot tab1 tab2
    rw [dif_pos h, dif_pos h, dif_pos h, dif_pos h, mul_zero, mul_zero, add_zero, add_zero]
  · have e1 : tab1 0 cs l = tab1 1 cs l := by
      unfold tab1
      rw [dif_neg h, dif_neg h]
    rw [dif_neg h, zero_add, e1, e]
    unfold rot
    rw [dif_neg h, dif_neg h]

/-- The scale is a positive real. -/
theorem scale_eq : scale = ((9881408 / 67108864 : ℝ) : EReal) := by
  simp [Ideal.ofBits, Ideal.ieee, -EReal.coe_mul]
  norm_num

theorem scale_nonneg : 0 ≤ scale := by
  rw [scale_eq]
  exact EReal.coe_nonneg.mpr (by norm_num)

theorem scale_ne_top : scale ≠ ⊤ := by
  rw [scale_eq]
  exact EReal.coe_ne_top _

section

variable (x : Fin 8 → Fin 4096 → Fin 1024 → EReal) (w : Fin 1024 → Fin 1440 → EReal) (gq : Fin 384 → EReal)
  (wq : Fin 384 → Fin 768 → EReal) (gk : Fin 256 → EReal) (wk : Fin 256 → Fin 1024 → EReal) (cs sn : Fin 4096 → Fin 16 → EReal)

/-- One entry of the projection. -/
def proj (b : Fin 8) (s : Fin 4096) (f : Fin 1440) : EReal := ∑ k : Fin 1024, x b s k * w k f

/-- One entry of the queries, and of the keys and values, projected up from their normed latent rows. -/
def q (b : Fin 8) (s : Fin 4096) (f : Fin 768) : EReal :=
  ∑ i : Fin 384, normed lenQ (fun j => proj x w b s ⟨j.val, by omega⟩) gq i * wq i f

def kv (b : Fin 8) (s : Fin 4096) (f : Fin 1024) : EReal :=
  ∑ i : Fin 256, normed lenK (fun j => proj x w b s ⟨384 + j.val, by omega⟩) gk i * wk i f

/-- The six results, entry by entry. -/
def qa (b : Fin 8) (h : Fin 8) (s : Fin 4096) (l : Fin 128) : EReal :=
  rot (fun j => q x w gq wq b s ⟨h.val * 96 + j.val, by omega⟩) (fun j => q x w gq wq b s ⟨h.val * 96 + 64 + j.val, by omega⟩)
    (cs s) (sn s) l * scale

def ka (b : Fin 8) (h : Fin 8) (s : Fin 4096) (l : Fin 128) : EReal :=
  rot (fun j => kv x w gk wk b s ⟨h.val * 128 + j.val, by omega⟩) (fun j => proj x w b s ⟨640 + j.val, by omega⟩) (cs s) (sn s) l

def va (b : Fin 8) (j : Fin 4) (s : Fin 4096) (l : Fin 128) : EReal :=
  kv x w gk wk b s ⟨(2 * j.val + l.val / 64) * 128 + 64 + l.val % 64, by omega⟩

def qs (b : Fin 8) (j : Fin 4) (s : Fin 4096) (l : Fin 128) : EReal :=
  proj x w b s ⟨672 + (l.val / 64) * 256 + j.val * 64 + l.val % 64, by omega⟩ * factor

def ks (b : Fin 8) (s : Fin 4096) (l : Fin 128) : EReal := proj x w b s ⟨1184 + l.val, by omega⟩

def vs (b : Fin 8) (s : Fin 4096) (l : Fin 128) : EReal := proj x w b s ⟨1312 + l.val, by omega⟩

end

end Cert.AbRow

end
-- ==== Proof.AbBlock.lean ====
/- What one block of the first layer's projection kernel computes, entry by entry. -/
module

public import proofs.«01_k».proof.Proof.Gen.Kernel1Ideal.Frame
public import proofs.«01_k».proof.Proof.AbRow
public import Idealize.ShloMosaic.Lib.Pointwise
public import Idealize.ShloMosaic.Lib.Pipeline.ValueKit

@[expose] public section

set_option maxRecDepth 16384

noncomputable section

namespace Cert.AbBlock

open Idealize.ShloMosaic Idealize.ShloMosaic.TcCoe Idealize.SL.Sem
open Idealize.ShloMosaic.Pipeline (Dat)
open Cert.Kernel1Ideal Cert.Kernel1Ideal.Gen Cert.AbRow

section Entries

variable (X : FVec Ideal S1024x1024 .f32) (W : FVec Ideal S1024x1536 .bf16) (gq : FVec Ideal S1x384 .f32)
  (wq : FVec Ideal S384x1024 .bf16) (gk : FVec Ideal S1x256 .f32) (wk : FVec Ideal S256x1536 .bf16)

/-- One entry of the product of a block of tokens with the weights. -/
def dot (r : Fin 1024) (f : Fin 1536) : EReal := ∑ k : Fin 1024, X (ix2 r k) * W (ix2 k f)

/-- One entry of the queries, and of the keys and values. -/
def up (r : Fin 1024) (f : Fin 1024) : EReal :=
  ∑ i : Fin 384, normed lenQ (fun j : Fin 384 => dot X W r ⟨j.val, by omega⟩) (fun j => gq (ix2 (0 : Fin 1) j)) i * wq (ix2 i f)

def upKV (r : Fin 1024) (f : Fin 1536) : EReal :=
  ∑ i : Fin 256, normed lenK (fun j : Fin 256 => dot X W r ⟨384 + j.val, by omega⟩) (fun j => gk (ix2 (0 : Fin 1) j)) i * wk (ix2 i f)

theorem product (r : Fin 1024) (f : Fin 1536) : k0_pay2 (F := Ideal) X W (ix2 r f) = dot X W r f := by
  pointwise [k0_pay2]
  rfl

theorem queries (r : Fin 1024) (f : Fin 1024) : k0_pay3 (F := Ideal) X W gq wq (ix2 r f) = up X W gq wq r f := by
  have h := product X W r
  unfold k0_pay3
  generalize k0_pay2 (F := Ideal) X W = P at h ⊢
  unfold up normed
  simp only [← h]
  pointwise

theorem latents (r : Fin 1024) (i : Fin 256) : k0_pay4 (F := Ideal) X W gk (ix2 r i)
    = normed lenK (fun j : Fin 256 => dot X W r ⟨384 + j.val, by omega⟩) (fun j => gk (ix2 (0 : Fin 1) j)) i := by
  have h := product X W r
  unfold k0_pay4
  generalize k0_pay2 (F := Ideal) X W = P at h ⊢
  unfold normed
  simp only [← h]
  pointwise

theorem keysValues (r : Fin 1024) (f : Fin 1536) :
    k0_pay5 (F := Ideal) (k0_pay4 (F := Ideal) X W gk) wk (ix2 r f) = upKV X W gk wk r f := by
  have h := latents X W gk r
  generalize k0_pay4 (F := Ideal) X W gk = L at h ⊢
  unfold upKV
  simp only [← h]
  pointwise [k0_pay5]

end Entries

/-! ## The stored pieces, from the products -/

/-- Lanes times one table, with the lanes 32 further times another. -/
def turn (t m1 m2 : Fin 128 → EReal) (l : Fin 128) : EReal := t l * m1 l + t (further l) * m2 l

/-- A head of the queries. -/
theorem head (Q : FVec Ideal S1024x1024 .f32) (M1 M2 : FVec Ideal S1024x128 .f32) (o : ℕ) (hs : S1024x1024.Slices ![0, o] S1024x128)
    (h1 h2 : S1024x128.ShapeCasts S1024x128) (hr : S1024x128.Rotates 1 none) (hb : FTy.bits .bf16 < FTy.bits .f32)
    (hc : S1024x128.ShapeCasts S1x1x1024x128) (x : S1x1x1024x128.Idx) (n : Fin 8) (r : Fin 1024) (l : Fin 128)
    (ho : o = n.val * 128) (h2' : r.val = (x 2).val) (h3' : l.val = (x 3).val) :
    shapeCast S1x1x1024x128 (truncf .bf16 (addf (mulf (extractStridedSlice S1024x128 ![0, o] Q hs) (shapeCast S1024x128 M1 h1))
        (mulf (dynamicRotate 1 96#32 none (extractStridedSlice S1024x128 ![0, o] Q hs) hr) (shapeCast S1024x128 M2 h2))) hb) hc x
      = turn (fun j => Q (ix2 r (⟨n.val * 128 + j.val, by omega⟩ : Fin 1024))) (fun j => M1 (ix2 r j)) (fun j => M2 (ix2 r j)) l := by
  idx_vars x
  obtain rfl : r = x2 := Fin.ext h2'
  obtain rfl : l = x3 := Fin.ext h3'
  subst ho
  unfold turn further
  pointwise
  have e : (l.val + 128 - 96) % 128 = (l.val + 32) % 128 := by omega
  simp only [e]

/-- The rotated keys that the heads share. -/
theorem shared (P : FVec Ideal S1024x1536 .f32) (M1 M2 : FVec Ideal S1024x128 .f32) (r : Fin 1024) (l : Fin 128) :
    k0_pay6 (F := Ideal) P M1 M2 (ix2 r l)
      = turn (fun j => P (ix2 r (⟨1408 + j.val, by omega⟩ : Fin 1536))) (fun j => M1 (ix2 r j)) (fun j => M2 (ix2 r j)) l := by
  unfold turn further
  pointwise [k0_pay6]
  have e : (l.val + 128 - 96) % 128 = (l.val + 32) % 128 := by omega
  simp only [e]

/-- A head of the keys. -/
theorem keyHead (K : FVec Ideal S1024x1536 .f32) (R : FVec Ideal S1024x128 .f32) (o : ℕ) (hs : S1024x1536.Slices ![0, o] S1024x128)
    (hb : FTy.bits .bf16 < FTy.bits .f32)
    (hc : S1024x128.ShapeCasts S1x1x1024x128) (x : S1x1x1024x128.Idx) (n : Fin 8) (r : Fin 1024) (l : Fin 128)
    (ho : o = n.val * 128) (h2' : r.val = (x 2).val) (h3' : l.val = (x 3).val) :
    shapeCast S1x1x1024x128 (truncf .bf16 (addf (extractStridedSlice S1024x128 ![0, o] K hs) R) hb) hc x
      = K (ix2 r (⟨n.val * 128 + l.val, by omega⟩ : Fin 1536)) + R (ix2 r l) := by
  idx_vars x
  obtain rfl : r = x2 := Fin.ext h2'
  obtain rfl : l = x3 := Fin.ext h3'
  subst ho
  pointwise

/-- A group of 128 columns inside 512. -/
theorem inner (K : FVec Ideal S1024x1536 .f32) (a o : ℕ) (ha : S1024x1536.Slices ![0, a] S1024x512)
    (hs : S1024x512.Slices ![0, o] S1024x128) (hb : FTy.bits .bf16 < FTy.bits .f32)
    (hc : S1024x128.ShapeCasts S1x1x1024x128) (x : S1x1x1024x128.Idx) (n : Fin 4) (r : Fin 1024) (l : Fin 128)
    (f : Fin 1536) (hf : f.val = a + (o + l.val)) (h2' : r.val = (x 2).val) (h3' : l.val = (x 3).val) :
    shapeCast S1x1x1024x128 (truncf .bf16 (extractStridedSlice S1024x128 ![0, o] (extractStridedSlice S1024x512 ![0, a] K ha) hs) hb)
        hc x = K (ix2 r f) := by
  idx_vars x
  obtain rfl : r = x2 := Fin.ext h2'
  obtain rfl : l = x3 := Fin.ext h3'
  pointwise
  refine congrArg (fun j => K (ix2 r j)) (Fin.ext ?_)
  dsimp only
  omega

/-- The same times the factor. -/
theorem innerScaled (K : FVec Ideal S1024x1536 .f32) (a o : ℕ) (ha : S1024x1536.Slices ![0, a] S1024x512)
    (hs : S1024x512.Slices ![0, o] S1024x128) (hb : FTy.bits .bf16 < FTy.bits .f32)
    (hc : S1024x128.ShapeCasts S1x1x1024x128) (x : S1x1x1024x128.Idx) (n : Fin 4) (r : Fin 1024) (l : Fin 128)
    (f : Fin 1536) (hf : f.val = a + (o + l.val)) (h2' : r.val = (x 2).val) (h3' : l.val = (x 3).val) :
    shapeCast S1x1x1024x128 (truncf .bf16 (mulf (extractStridedSlice S1024x128 ![0, o] (extractStridedSlice S1024x512 ![0, a] K ha) hs)
        (broadcast S1024x128 (Scalar.ofBits (F := Ideal) .f32 0x3E38AA3B#32))) hb) hc x = K (ix2 r f) * factor := by
  idx_vars x
  obtain rfl : r = x2 := Fin.ext h2'
  obtain rfl : l = x3 := Fin.ext h3'
  pointwise
  refine congrArg (fun j => K (ix2 r j) * factor) (Fin.ext ?_)
  dsimp only
  omega

/-- A group of 128 columns. -/
theorem plain (K : FVec Ideal S1024x1536 .f32) (o : ℕ) (hs : S1024x1536.Slices ![0, o] S1024x128)
    (hb : FTy.bits .bf16 < FTy.bits .f32) (hc : S1024x128.ShapeCasts S1x1x1024x128) (x : S1x1x1024x128.Idx) (r : Fin 1024)
    (l : Fin 128) (f : Fin 1536) (hf : f.val = o + l.val) (h2' : r.val = (x 2).val) (h3' : l.val = (x 3).val) :
    shapeCast S1x1x1024x128 (truncf .bf16 (extractStridedSlice S1024x128 ![0, o] K hs) hb) hc x = K (ix2 r f) := by
  idx_vars x
  obtain rfl : r = x2 := Fin.ext h2'
  obtain rfl : l = x3 := Fin.ext h3'
  pointwise
  refine congrArg (fun j => K (ix2 r j)) (Fin.ext ?_)
  dsimp only
  omega

/-! ## The six blocks -/

/-- The blocks from the products. -/
def headOf (Q : FVec Ideal S1024x1024 .f32) (q1 q2 : FVec Ideal S1024x128 .f32) (n : Fin 8) (r : Fin 1024) (l : Fin 128) : EReal :=
  turn (fun j => Q (ix2 r (⟨n.val * 128 + j.val, by omega⟩ : Fin 1024))) (fun j => q1 (ix2 r j)) (fun j => q2 (ix2 r j)) l

def keyOf (K : FVec Ideal S1024x1536 .f32) (R : FVec Ideal S1024x128 .f32) (n : Fin 8) (r : Fin 1024) (l : Fin 128) : EReal :=
  K (ix2 r (⟨n.val * 128 + l.val, by omega⟩ : Fin 1536)) + R (ix2 r l)

def groupOf (K : FVec Ideal S1024x1536 .f32) (a : Fin 1025) (n : Fin 4) (r : Fin 1024) (l : Fin 128) : EReal :=
  K (ix2 r (⟨a.val + (n.val * 128 + l.val), by omega⟩ : Fin 1536))

section Blocks

variable (X : FVec Ideal S1024x1024 .f32) (W : FVec Ideal S1024x1536 .bf16) (gq : FVec Ideal S1x384 .f32)
  (wq : FVec Ideal S384x1024 .bf16) (gk : FVec Ideal S1x256 .f32) (wk : FVec Ideal S256x1536 .bf16)
  (q1 q2 k1 k2 : FVec Ideal S1024x128 .f32)

theorem words : k0_pay39 (F := Ideal) X W gq wq gk wk q1 q2 k1 k2 = k0_pay2 X W
    ∧ k0_pay40 (F := Ideal) X W gq wq gk wk q1 q2 k1 k2 = k0_pay3 X W gq wq
    ∧ k0_pay42 (F := Ideal) X W gq wq gk wk q1 q2 k1 k2 = k0_pay5 (k0_pay4 X W gk) wk
    ∧ k0_pay41 (F := Ideal) X W gq wq gk wk q1 q2 k1 k2 = k0_pay4 X W gk
    ∧ k0_pay43 (F := Ideal) X W gq wq gk wk q1 q2 k1 k2 = k0_pay6 (k0_pay2 X W) k1 k2
    ∧ k0_pay44 (F := Ideal) X W gq wq gk wk q1 q2 k1 k2 = k0_pay7 q1
    ∧ k0_pay45 (F := Ideal) X W gq wq gk wk q1 q2 k1 k2 = k0_pay8 q2 := by
  unfold k0_pay42 k0_pay43 k0_pay41 k0_pay39 k0_pay40 k0_pay44 k0_pay45
  simp (disch := decide) only [View.ld_unit_lit', and_self]

theorem qa (y : S1x8x1024x128.Idx) : out0_10 (F := Ideal) X W gq wq gk wk q1 q2 k1 k2 y
    = headOf (k0_pay3 X W gq wq) q1 q2 (y 1) (y 2) (y 3) := by
  obtain ⟨-, e, -, -, -, e1, e2⟩ := words X W gq wq gk wk q1 q2 k1 k2
  unfold out0_10
  rw [e, e1, e2]
  simp (disch := decide) only [View.ld_unit_lit']
  generalize k0_pay3 (F := Ideal) X W gq wq = Q
  clear e e1 e2
  canon_tiles x h
  all_goals
    exact head Q q1 q2 _ _ _ _ _ _ _ x _ _ _ (by omega) h2 h3

theorem ka (y : S1x8x1024x128.Idx) : out0_11 (F := Ideal) X W gq wq gk wk q1 q2 k1 k2 y
    = keyOf (k0_pay5 (k0_pay4 X W gk) wk) (k0_pay6 (k0_pay2 X W) k1 k2) (y 1) (y 2) (y 3) := by
  obtain ⟨e, -, e1, e2, e3, -, -⟩ := words X W gq wq gk wk q1 q2 k1 k2
  unfold out0_11
  rw [e1, e3, e2, e]
  simp (disch := decide) only [View.ld_unit_lit', k0_pay10]
  generalize k0_pay5 (F := Ideal) (k0_pay4 X W gk) wk = K
  generalize k0_pay6 (F := Ideal) (k0_pay2 X W) k1 k2 = R
  clear e e1 e2 e3
  canon_tiles x h
  all_goals
    exact keyHead K R _ _ _ _ x _ _ _ (by omega) h2 h3

theorem va (y : S1x4x1024x128.Idx) : out0_12 (F := Ideal) X W gq wq gk wk q1 q2 k1 k2 y
    = groupOf (k0_pay5 (k0_pay4 X W gk) wk) 1024 (y 1) (y 2) (y 3) := by
  obtain ⟨-, -, e1, -, -, -, -⟩ := words X W gq wq gk wk q1 q2 k1 k2
  unfold out0_12
  rw [e1]
  generalize k0_pay5 (F := Ideal) (k0_pay4 X W gk) wk = K
  clear e1
  canon_tiles x h
  all_goals
    exact inner K 1024 _ _ _ _ _ x 0 _ _ _ (by show 1024 + ((y 1).val * 128 + _) = _; omega) h2 h3

theorem qs (y : S1x4x1024x128.Idx) : out0_13 (F := Ideal) X W gq wq gk wk q1 q2 k1 k2 y
    = groupOf (k0_pay2 X W) 640 (y 1) (y 2) (y 3) * factor := by
  obtain ⟨e, -, -, -, -, -, -⟩ := words X W gq wq gk wk q1 q2 k1 k2
  unfold out0_13
  rw [e]
  generalize k0_pay2 (F := Ideal) X W = K
  clear e
  canon_tiles x h
  case piece1 =>
    exact innerScaled K 640 256 slices_S1024x1536_o0_640_S1024x512 slices_S1024x512_o0_256_S1024x128 _ _ x 0 _ _ _
      (by show 640 + ((y 1).val * 128 + _) = _; omega) h2 h3
  all_goals
    exact innerScaled K 640 _ _ _ _ _ x 0 _ _ _ (by show 640 + ((y 1).val * 128 + _) = _; omega) h2 h3

theorem ks (y : S1x1x1024x128.Idx) : out0_14 (F := Ideal) X W gq wq gk wk q1 q2 k1 k2 y
    = groupOf (k0_pay2 X W) 1024 1 (y 2) (y 3) := by
  obtain ⟨e, -, -, -, -, -, -⟩ := words X W gq wq gk wk q1 q2 k1 k2
  unfold out0_14
  rw [e]
  generalize k0_pay2 (F := Ideal) X W = K
  clear e
  simp (disch := decide) only [View.canon_cons_unit_lit']
  exact plain K 1152 _ _ _ y _ _ _ (by show 1024 + (1 * 128 + _) = _; omega) rfl rfl

theorem vs (y : S1x1x1024x128.Idx) : out0_15 (F := Ideal) X W gq wq gk wk q1 q2 k1 k2 y
    = groupOf (k0_pay2 X W) 1024 2 (y 2) (y 3) := by
  obtain ⟨e, -, -, -, -, -, -⟩ := words X W gq wq gk wk q1 q2 k1 k2
  unfold out0_15
  rw [e]
  generalize k0_pay2 (F := Ideal) X W = K
  clear e
  simp (disch := decide) only [View.canon_cons_unit_lit']
  exact plain K 1280 _ _ _ y _ _ _ (by show 1024 + (2 * 128 + _) = _; omega) rfl rfl

end Blocks

end Cert.AbBlock

end
-- ==== Proof.AbRead.lean ====
/- What the first layer's projection kernel is given: its packed weights and its tables of angles. -/
module

public import proofs.«01_k».proof.Proof.Gen.Kernel1Ideal.Frame
public import Idealize.ShloMosaic.Lib.Pointwise
public import Idealize.ShloMosaic.Lib.Pipeline.ValueKit

@[expose] public section

set_option maxRecDepth 16384

noncomputable section

namespace Cert.AbRead

open Idealize.ShloMosaic Idealize.ShloMosaic.TcCoe Idealize.SL.Sem
open Idealize.ShloMosaic.Pipeline (Dat)
open Cert.Kernel1Ideal Cert.Kernel1Ideal.Gen

variable (m : (ℓ : Loc nD τ sig) → Buf (Elt Ideal) ℓ)

/-! ## The weights -/

/-- The columns of the rotated keys, their halves in both orders, at the lanes the kernel wants them. -/
def turned (x : FVec Ideal S1024x1440 .f32) : FVec Ideal S1024x128 .f32 :=
  concatenate S1024x128 1 [
    ⟨S1024x64, broadcastInDim S1024x64 ![] bcast_S_S1024x64 (constant (F := Ideal) S_ .f32 0x00000000#32)⟩,
    ⟨S1024x32, extractStridedSlice S1024x32 ![0, 640] x slices_S1024x1440_S1024x32_0_640⟩,
    ⟨S1024x16, extractStridedSlice S1024x16 ![0, 16]
      (extractStridedSlice S1024x32 ![0, 640] x slices_S1024x1440_S1024x32_0_640) slices_S1024x32_S1024x16_0_16⟩,
    ⟨S1024x16, extractStridedSlice S1024x16 ![0, 0]
      (extractStridedSlice S1024x32 ![0, 640] x slices_S1024x1440_S1024x32_0_640) slices_S1024x32_S1024x16_0_0⟩]
    concatenates_S1024x64_S1024x32_S1024x16_S1024x16_S1024x128_d1

/-- The second attention's queries, its two groups interleaved. -/
def paired (x : FVec Ideal S1024x1440 .f32) : FVec Ideal S1024x512 .f32 :=
  shapeCast S1024x512 (transpose S1024x4x2x64 [0, 2, 1, 3]
    (shapeCast S1024x2x4x64 (extractStridedSlice S1024x512 ![0, 672] x slices_S1024x1440_S1024x512_0_672)
      shapeCasts_S1024x512_S1024x2x4x64) transposes_S1024x2x4x64_S1024x4x2x64_0_2_1_3) shapeCasts_S1024x4x2x64_S1024x512

/-- The kernel's first weights: the model's columns in the kernel's order. -/
def packed (x : FVec Ideal S1024x1440 .f32) : FVec Ideal S1024x1536 .f32 :=
  concatenate S1024x1536 1 [
    ⟨S1024x384, extractStridedSlice S1024x384 ![0, 0] x slices_S1024x1440_S1024x384_0_0⟩,
    ⟨S1024x256, extractStridedSlice S1024x256 ![0, 384] x slices_S1024x1440_S1024x256_0_384⟩,
    ⟨S1024x512, paired x⟩,
    ⟨S1024x128, extractStridedSlice S1024x128 ![0, 1184] x slices_S1024x1440_S1024x128_0_1184⟩,
    ⟨S1024x128, extractStridedSlice S1024x128 ![0, 1312] x slices_S1024x1440_S1024x128_0_1312⟩,
    ⟨S1024x128, turned x⟩]
    concatenates_S1024x384_S1024x256_S1024x512_S1024x128_S1024x128_S1024x128_S1024x1536_d1

/-- The queries' weights, each head's last lanes a second time with their halves exchanged. -/
def packedQ (x : FVec Ideal S384x768 .f32) : FVec Ideal S384x1024 .f32 :=
  shapeCast S384x1024 (concatenate S384x8x128 2 [
    ⟨S384x8x96, shapeCast S384x8x96 x shapeCasts_S384x768_S384x8x96⟩,
    ⟨S384x8x16, extractStridedSlice S384x8x16 ![0, 0, 80] (shapeCast S384x8x96 x shapeCasts_S384x768_S384x8x96)
      slices_S384x8x96_S384x8x16_0_0_80⟩,
    ⟨S384x8x16, extractStridedSlice S384x8x16 ![0, 0, 64] (shapeCast S384x8x96 x shapeCasts_S384x768_S384x8x96)
      slices_S384x8x96_S384x8x16_0_0_64⟩]
    concatenates_S384x8x96_S384x8x16_S384x8x16_S384x8x128_d2) shapeCasts_S384x8x128_S384x1024

/-- The keys' columns, each head's padded to 128 lanes. -/
def paddedK (x : FVec Ideal S256x1024 .f32) : FVec Ideal S256x1024 .f32 :=
  shapeCast S256x1024 (concatenate S256x8x128 2 [
    ⟨S256x8x64, extractStridedSlice S256x8x64 ![0, 0, 0] (shapeCast S256x8x128 x shapeCasts_S256x1024_S256x8x128)
      slices_S256x8x128_S256x8x64_0_0_0⟩,
    ⟨S256x8x64, broadcastInDim S256x8x64 ![] bcast_S_S256x8x64 (constant (F := Ideal) S_ .f32 0x00000000#32)⟩]
    concatenates_S256x8x64_S256x8x64_S256x8x128_d2) shapeCasts_S256x8x128_S256x1024

/-- The values' columns. -/
def columnsV (x : FVec Ideal S256x1024 .f32) : FVec Ideal S256x512 .f32 :=
  shapeCast S256x512 (extractStridedSlice S256x8x64 ![0, 0, 64]
    (shapeCast S256x8x128 x shapeCasts_S256x1024_S256x8x128) slices_S256x8x128_S256x8x64_0_0_64) shapeCasts_S256x8x64_S256x512

/-- The keys' and values' weights: the padded keys, then the values. -/
def packedKV (x : FVec Ideal S256x1024 .f32) : FVec Ideal S256x1536 .f32 :=
  concatenate S256x1536 1 [⟨S256x1024, paddedK x⟩, ⟨S256x512, columnsV x⟩] concatenates_S256x1024_S256x512_S256x1536_d1

/-! ## The tables -/

/-- The angle of a position at each of the sixteen frequencies. -/
def angle : FVec Ideal S4096x16 .f32 :=
  mulf (broadcastInDim S4096x16 ![0, 1] bcast_S4096x1_S4096x16_0_1
      (broadcastInDim S4096x1 ![0] bcast_S4096_S4096x1_0 (sitofp .f32 (iotaInDim S4096 32 0))))
    (broadcastInDim S4096x16 ![0, 1] bcast_S1x16_S4096x16_0_1 (broadcastInDim S1x16 ![1] bcast_S16_S1x16_1
      (Host.powf (broadcastInDim S16 ![] bcast_S_S16 (constant S_ .f32 0x461C4000#32))
        (Host.divf (Host.negf (addf (broadcastInDim S16 ![] bcast_S_S16 (constant S_ .f32 0x00000000#32))
            (mulf (broadcastInDim S16 ![] bcast_S_S16 (constant S_ .f32 0x40000000#32)) (sitofp .f32 (iotaInDim S16 32 0)))))
          (broadcastInDim S16 ![] bcast_S_S16 (constant S_ .f32 0x42000000#32))))))

/-- A table of 128 lanes: a constant, two columns of sixteen, zeros. -/
def lanes (e : BitVec 32) (a b : FVec Ideal S4096x16 .f32) : FVec Ideal S4096x128 .f32 :=
  concatenate S4096x128 1 [
    ⟨S4096x64, broadcastInDim S4096x64 ![] bcast_S_S4096x64 (constant (F := Ideal) S_ .f32 e)⟩,
    ⟨S4096x16, a⟩, ⟨S4096x16, b⟩,
    ⟨S4096x32, broadcastInDim S4096x32 ![] bcast_S_S4096x32 (constant (F := Ideal) S_ .f32 0x00000000#32)⟩]
    concatenates_S4096x64_S4096x16_S4096x16_S4096x32_S4096x128_d1

/-- A table times the queries' scale. -/
def scaled (x : FVec Ideal S4096x128 .f32) : FVec Ideal S4096x128 .f32 :=
  mulf x (broadcastInDim S4096x128 ![] bcast_S_S4096x128 (constant (F := Ideal) S_ .f32 0x3E16C740#32))

/-! ## What the operations before the call leave -/

theorem v15 (c : Dev nD) : V m c main_v15 = truncf .bf16 (packed (m ((c : Thread nD τ).loc main_arg1))) bitsLt_bf16_f32 := by
  simp only [V, hostOps0]
  after_results_simp
  rfl

theorem v21 (c : Dev nD) : V m c main_v21 = truncf .bf16 (packedQ (m ((c : Thread nD τ).loc main_arg3))) bitsLt_bf16_f32 := by
  simp only [V, hostOps0]
  after_results_simp
  rfl

theorem v31 (c : Dev nD) : V m c main_v31 = truncf .bf16 (packedKV (m ((c : Thread nD τ).loc main_arg5))) bitsLt_bf16_f32 := by
  simp only [V, hostOps0]
  after_results_simp
  rfl

theorem v53 (c : Dev nD) : V m c main_v53 = lanes 0x00000000#32 (Host.cos angle) (Host.cos angle) := by
  simp only [V, hostOps0]
  after_results_simp
  rfl

theorem v55 (c : Dev nD) : V m c main_v55 = lanes 0x00000000#32 (Host.negf (Host.sin angle)) (Host.sin angle) := by
  simp only [V, hostOps0]
  after_results_simp
  rfl

theorem v58 (c : Dev nD) : V m c main_v58 = scaled (lanes 0x3F800000#32 (Host.cos angle) (Host.cos angle)) := by
  simp only [V, hostOps0]
  after_results_simp
  rfl

theorem v60 (c : Dev nD) : V m c main_v60 = scaled (lanes 0x00000000#32 (Host.negf (Host.sin angle)) (Host.sin angle)) := by
  simp only [V, hostOps0]
  after_results_simp
  rfl

theorem v61 (c : Dev nD) : V m c main_v61 = shapeCast S1x384 (m ((c : Thread nD τ).loc main_arg2)) shapeCasts_S384_S1x384 := by
  simp only [V, hostOps0]
  after_results_simp
  rfl

theorem v62 (c : Dev nD) : V m c main_v62 = shapeCast S1x256 (m ((c : Thread nD τ).loc main_arg4)) shapeCasts_S256_S1x256 := by
  simp only [V, hostOps0]
  after_results_simp
  rfl

theorem v0 (c : Dev nD) :
    V m c main_v0 = shapeCast S32768x1024 (m ((c : Thread nD τ).loc main_arg0)) shapeCasts_S8x4096x1024_S32768x1024 := by
  simp only [V, hostOps0]
  after_results_simp
  rfl

/-! ## The blocks -/

/-- Where each window's block lies. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val % 4, 0]
    ∧ win0_7.index t = ![t.val % 4, 0] ∧ win0_8.index t = ![t.val % 4, 0] ∧ win0_9.index t = ![t.val % 4, 0] :=
  (by decide +kernel : ∀ t : Fin grid0.N, _)

theorem idx_out : ∀ t : Fin cfg0.N, win0_10.index t = ![t.val / 4, 0, t.val % 4, 0]
    ∧ win0_11.index t = ![t.val / 4, 0, t.val % 4, 0] ∧ win0_12.index t = ![t.val / 4, 0, t.val % 4, 0]
    ∧ win0_13.index t = ![t.val / 4, 0, t.val % 4, 0] ∧ win0_14.index t = ![t.val / 4, 0, t.val % 4, 0]
    ∧ win0_15.index t = ![t.val / 4, 0, t.val % 4, 0] :=
  (by decide +kernel : ∀ t : Fin grid0.N, _)

/-- The sequence and the position of a block's row. -/
def batch (t : Fin cfg0.N) : Fin 8 := ⟨t.val / 4, by have h : t.val < 32 := t.isLt; omega⟩

def pos (t : Fin cfg0.N) (r : Fin 1024) : Fin 4096 := ⟨1024 * (t.val % 4) + r.val, by omega⟩

theorem flat_at (x : FVec Ideal S8x4096x1024 .f32) (p : Fin 32768) (k : Fin 1024) :
    shapeCast S32768x1024 x shapeCasts_S8x4096x1024_S32768x1024 (ix2 p k)
      = x (ix3 (⟨p.val / 4096, by omega⟩ : Fin 8) (⟨p.val % 4096, by omega⟩ : Fin 4096) k) := by
  pointwise

theorem read0 (c : Dev nD) (t : Fin cfg0.N) (r k : Fin 1024) :
    iblk m c 0 t (ix2 r k) = m ((c : Thread nD τ).loc main_arg0) (ix3 (batch t) (pos t r) k) := by
  have h : t.val < 32 := t.isLt
  have e := flat_at (m ((c : Thread nD τ).loc main_arg0)) ⟨1024 * t.val + r.val, by omega⟩ k
  have eb : (⟨(1024 * t.val + r.val) / 4096, by omega⟩ : Fin 8) = batch t :=
    Fin.ext (by show (1024 * t.val + r.val) / 4096 = t.val / 4; omega)
  have ep : (⟨(1024 * t.val + r.val) % 4096, by omega⟩ : Fin 4096) = pos t r :=
    Fin.ext (by show (1024 * t.val + r.val) % 4096 = 1024 * (t.val % 4) + r.val; omega)
  dsimp only at e
  rw [eb, ep] at e
  refine Eq.trans ?_ e
  blk_simp [iblk]
  rw [v0]
  blk_ext [idx t]

theorem read1 (c : Dev nD) (t : Fin cfg0.N) (k : Fin 1024) (f : Fin 1536) :
    iblk m c 1 t (ix2 k f) = packed (m ((c : Thread nD τ).loc main_arg1)) (ix2 k f) := by
  blk_simp [iblk]
  rw [v15]
  blk_ext [idx t]

theorem read2 (c : Dev nD) (t : Fin cfg0.N) (i : Fin 384) :
    iblk m c 2 t (ix2 (0 : Fin 1) i) = m ((c : Thread nD τ).loc main_arg2) (ix1 i) := by
  blk_simp [iblk]
  rw [v61]
  pointwise
  change m ((c : Thread nD τ).loc main_arg2) _ = _
  blk_ext [idx t]

theorem read3 (c : Dev nD) (t : Fin cfg0.N) (i : Fin 384) (f : Fin 1024) :
    iblk m c 3 t (ix2 i f) = packedQ (m ((c : Thread nD τ).loc main_arg3)) (ix2 i f) := by
  blk_simp [iblk]
  rw [v21]
  blk_ext [idx t]

theorem read4 (c : Dev nD) (t : Fin cfg0.N) (i : Fin 256) :
    iblk m c 4 t (ix2 (0 : Fin 1) i) = m ((c : Thread nD τ).loc main_arg4) (ix1 i) := by
  blk_simp [iblk]
  rw [v62]
  pointwise
  change m ((c : Thread nD τ).loc main_arg4) _ = _
  blk_ext [idx t]

theorem read5 (c : Dev nD) (t : Fin cfg0.N) (i : Fin 256) (f : Fin 1536) :
    iblk m c 5 t (ix2 i f) = packedKV (m ((c : Thread nD τ).loc main_arg5)) (ix2 i f) := by
  blk_simp [iblk]
  rw [v31]
  blk_ext [idx t]

theorem read6 (c : Dev nD) (t : Fin cfg0.N) (r : Fin 1024) (l : Fin 128) :
    iblk m c 6 t (ix2 r l) = scaled (lanes 0x3F800000#32 (Host.cos angle) (Host.cos angle)) (ix2 (pos t r) l) := by
  blk_simp [iblk]
  rw [v58]
  blk_ext [idx t, pos]

theorem read7 (c : Dev nD) (t : Fin cfg0.N) (r : Fin 1024) (l : Fin 128) :
    iblk m c 7 t (ix2 r l) = scaled (lanes 0x00000000#32 (Host.negf (Host.sin angle)) (Host.sin angle)) (ix2 (pos t r) l) := by
  blk_simp [iblk]
  rw [v60]
  blk_ext [idx t, pos]

theorem read8 (c : Dev nD) (t : Fin cfg0.N) (r : Fin 1024) (l : Fin 128) :
    iblk m c 8 t (ix2 r l) = lanes 0x00000000#32 (Host.cos angle) (Host.cos angle) (ix2 (pos t r) l) := by
  blk_simp [iblk]
  rw [v53]
  blk_ext [idx t, pos]

theorem read9 (c : Dev nD) (t : Fin cfg0.N) (r : Fin 1024) (l : Fin 128) :
    iblk m c 9 t (ix2 r l) = lanes 0x00000000#32 (Host.negf (Host.sin angle)) (Host.sin angle) (ix2 (pos t r) l) := by
  blk_simp [iblk]
  rw [v55]
  blk_ext [idx t, pos]

end Cert.AbRead

end
-- ==== Proof.AbPack.lean ====
/- The projection kernel's packed weights and tables, entry by entry. -/
module

public import proofs.«01_k».proof.Proof.AbRead
public import proofs.«01_k».proof.Proof.AbRow

@[expose] public section

set_option maxRecDepth 16384

noncomputable section

namespace Cert.AbRead

open Idealize.ShloMosaic Idealize.ShloMosaic.TcCoe
open Cert.Kernel1Ideal Cert.Kernel1Ideal.Gen

theorem turned_at (x : FVec Ideal S1024x1440 .f32) (k : Fin 1024) (l : Fin 128) :
    turned x (ix2 k l) = AbRow.spread (fun _ => 0) (fun j => x (ix2 k (⟨640 + j.val, by omega⟩ : Fin 1440))) l := by
  pointwise [turned, AbRow.spread]
  repeat' split
  all_goals first
    | (exfalso; omega)
    | rfl
    | (refine congrArg (fun j => x (ix2 k j)) (Fin.ext ?_)
       dsimp only <;> omega)

theorem paired_at (x : FVec Ideal S1024x1440 .f32) (k : Fin 1024) (f : Fin 512) :
    paired x (ix2 k f)
      = x (ix2 k (⟨672 + (f.val % 128 / 64) * 256 + (f.val / 128) * 64 + f.val % 64, by omega⟩ : Fin 1440)) := by
  pointwise [paired]
  refine congrArg (fun j => x (ix2 k j)) (Fin.ext ?_)
  dsimp only
  omega

theorem packed_latent (x : FVec Ideal S1024x1440 .f32) (k : Fin 1024) (f : Fin 640) :
    packed x (ix2 k (⟨f.val, by omega⟩ : Fin 1536)) = x (ix2 k (⟨f.val, by omega⟩ : Fin 1440)) := by
  pointwise [packed]
  repeat' split
  all_goals first
    | (exfalso; omega)
    | (refine congrArg (fun j => x (ix2 k j)) (Fin.ext ?_)
       dsimp only <;> omega)

theorem packed_paired (x : FVec Ideal S1024x1440 .f32) (k : Fin 1024) (f : Fin 512) :
    packed x (ix2 k (⟨640 + f.val, by omega⟩ : Fin 1536)) = paired x (ix2 k f) := by
  pointwise [packed]
  repeat' split
  all_goals first
    | (exfalso; omega)
    | (refine congrArg (fun j => paired x (ix2 k j)) (Fin.ext ?_)
       dsimp only <;> omega)

theorem packed_plain (x : FVec Ideal S1024x1440 .f32) (k : Fin 1024) (f : Fin 256) :
    packed x (ix2 k (⟨1152 + f.val, by omega⟩ : Fin 1536)) = x (ix2 k (⟨1184 + f.val, by omega⟩ : Fin 1440)) := by
  pointwise [packed]
  repeat' split
  all_goals first
    | (exfalso; omega)
    | (refine congrArg (fun j => x (ix2 k j)) (Fin.ext ?_)
       dsimp only <;> omega)

theorem packed_turned (x : FVec Ideal S1024x1440 .f32) (k : Fin 1024) (l : Fin 128) :
    packed x (ix2 k (⟨1408 + l.val, by omega⟩ : Fin 1536)) = turned x (ix2 k l) := by
  pointwise [packed]
  repeat' split
  all_goals first
    | (exfalso; omega)
    | (refine congrArg (fun j => turned x (ix2 k j)) (Fin.ext ?_)
       dsimp only <;> omega)

theorem packedQ_at (x : FVec Ideal S384x768 .f32) (i : Fin 384) (h : Fin 8) (l : Fin 128) :
    packedQ x (ix2 i (⟨h.val * 128 + l.val, by omega⟩ : Fin 1024))
      = AbRow.spread (fun j => x (ix2 i (⟨h.val * 96 + j.val, by omega⟩ : Fin 768)))
          (fun j => x (ix2 i (⟨h.val * 96 + 64 + j.val, by omega⟩ : Fin 768))) l := by
  pointwise [packedQ, AbRow.spread]
  repeat' split
  all_goals first
    | (exfalso; omega)
    | (refine congrArg (fun j => x (ix2 i j)) (Fin.ext ?_)
       dsimp only <;> omega)

theorem paddedK_at (x : FVec Ideal S256x1024 .f32) (i : Fin 256) (h : Fin 8) (l : Fin 128) :
    paddedK x (ix2 i (⟨h.val * 128 + l.val, by omega⟩ : Fin 1024))
      = if l.val < 64 then x (ix2 i (⟨h.val * 128 + l.val, by omega⟩ : Fin 1024)) else 0 := by
  pointwise [paddedK]
  repeat' split
  all_goals first
    | (exfalso; omega)
    | rfl
    | (refine congrArg (fun j => x (ix2 i j)) (Fin.ext ?_)
       dsimp only <;> omega)

theorem columnsV_at (x : FVec Ideal S256x1024 .f32) (i : Fin 256) (f : Fin 512) :
    columnsV x (ix2 i f) = x (ix2 i (⟨f.val / 64 * 128 + 64 + f.val % 64, by omega⟩ : Fin 1024)) := by
  pointwise [columnsV]
  refine congrArg (fun j => x (ix2 i j)) (Fin.ext ?_)
  dsimp only
  omega

theorem packedKV_keys (x : FVec Ideal S256x1024 .f32) (i : Fin 256) (f : Fin 1024) :
    packedKV x (ix2 i (⟨f.val, by omega⟩ : Fin 1536)) = paddedK x (ix2 i f) := by
  pointwise [packedKV]

theorem packedKV_values (x : FVec Ideal S256x1024 .f32) (i : Fin 256) (f : Fin 512) :
    packedKV x (ix2 i (⟨1024 + f.val, by omega⟩ : Fin 1536)) = columnsV x (ix2 i f) := by
  pointwise [packedKV]
  repeat' split
  all_goals first
    | (exfalso; omega)
    | (refine congrArg (fun j => columnsV x (ix2 i j)) (Fin.ext ?_)
       dsimp only <;> omega)

/-- The cosines and sines of the angles, by position and frequency. -/
def cs (s : Fin 4096) (j : Fin 16) : EReal := Host.cos angle (ix2 s j)

def sn (s : Fin 4096) (j : Fin 16) : EReal := Host.sin angle (ix2 s j)

theorem tab1_at (e : BitVec 32) (s : Fin 4096) (l : Fin 128) :
    lanes e (Host.cos angle) (Host.cos angle) (ix2 s l) = AbRow.tab1 (Ideal.ofBits .f32 e) (cs s) l := by
  have hc : ∀ j, cs s j = Host.cos angle (ix2 s j) := fun _ => rfl
  generalize Host.cos angle = y at hc ⊢
  pointwise [lanes, AbRow.tab1]
  simp only [hc]
  repeat' split
  all_goals first
    | (exfalso; omega)
    | rfl
    | (refine congrArg (fun j => y (ix2 s j)) (Fin.ext ?_)
       dsimp only <;> omega)

theorem tab2_at (s : Fin 4096) (l : Fin 128) :
    lanes 0x00000000#32 (Host.negf (Host.sin angle)) (Host.sin angle) (ix2 s l) = AbRow.tab2 (sn s) l := by
  have hc : ∀ j, sn s j = Host.sin angle (ix2 s j) := fun _ => rfl
  generalize Host.sin angle = y at hc ⊢
  pointwise [lanes, AbRow.tab2]
  simp only [hc]
  repeat' split
  all_goals first
    | (exfalso; omega)
    | rfl
    | (refine congrArg (fun j => y (ix2 s j)) (Fin.ext ?_)
       dsimp only <;> omega)
    | (refine congrArg (fun j => -(y (ix2 s j))) (Fin.ext ?_)
       dsimp only <;> omega)

theorem scaled_at (x : FVec Ideal S4096x128 .f32) (s : Fin 4096) (l : Fin 128) : scaled x (ix2 s l) = x (ix2 s l) * AbRow.scale := by
  pointwise [scaled]

end Cert.AbRead

end
-- ==== Proof.AbArray.lean ====
/- What the first layer's projection kernel leaves in its six results. -/
module

public import proofs.«01_k».proof.Proof.AbBlock
public import proofs.«01_k».proof.Proof.AbPack
public import Idealize.ShloMosaic.Lib.Pipeline.ValueKit

@[expose] public section

set_option maxRecDepth 16384

noncomputable section

namespace Cert.AbArray

open Idealize.ShloMosaic Idealize.ShloMosaic.TcCoe Idealize.SL.Sem
open Idealize.ShloMosaic.Pipeline (Dat)
open Cert.Kernel1Ideal Cert.Kernel1Ideal.Gen Cert.AbRow
open Cert.AbRead (batch pos cs sn)

variable (m : (ℓ : Loc nD τ sig) → Buf (Elt Ideal) ℓ)

/-- The arguments of a device, by their coordinates. -/
def x (c : Dev nD) (b : Fin 8) (s : Fin 4096) (k : Fin 1024) : EReal := m ((c : Thread nD τ).loc main_arg0) (ix3 b s k)
def w (c : Dev nD) (k : Fin 1024) (f : Fin 1440) : EReal := m ((c : Thread nD τ).loc main_arg1) (ix2 k f)
def gq (c : Dev nD) (i : Fin 384) : EReal := m ((c : Thread nD τ).loc main_arg2) (ix1 i)
def wq (c : Dev nD) (i : Fin 384) (f : Fin 768) : EReal := m ((c : Thread nD τ).loc main_arg3) (ix2 i f)
def gk (c : Dev nD) (i : Fin 256) : EReal := m ((c : Thread nD τ).loc main_arg4) (ix1 i)
def wk (c : Dev nD) (i : Fin 256) (f : Fin 1024) : EReal := m ((c : Thread nD τ).loc main_arg5) (ix2 i f)

/-! ## The products of a block -/

theorem sum_spread {n : ℕ} (a : Fin n → EReal) (u : Fin n → Fin 64 → EReal) (v : Fin n → Fin 32 → EReal) (l : Fin 128) :
    ∑ k, a k * spread (u k) (v k) l = spread (fun j => ∑ k, a k * u k j) (fun j => ∑ k, a k * v k j) l := by
  unfold spread
  split_ifs <;> rfl

theorem dot_latent (c : Dev nD) (t : Fin cfg0.N) (r : Fin 1024) (f : Fin 640) :
    AbBlock.dot (iblk m c 0 t) (iblk m c 1 t) r ⟨f.val, by omega⟩ = proj (x m c) (w m c) (batch t) (pos t r) ⟨f.val, by omega⟩ := by
  refine Finset.sum_congr rfl fun k _ => ?_
  rw [AbRead.read0, AbRead.read1, AbRead.packed_latent]
  rfl

theorem dot_paired (c : Dev nD) (t : Fin cfg0.N) (r : Fin 1024) (f : Fin 512) :
    AbBlock.dot (iblk m c 0 t) (iblk m c 1 t) r ⟨640 + f.val, by omega⟩ = proj (x m c) (w m c) (batch t) (pos t r)
      ⟨672 + (f.val % 128 / 64) * 256 + (f.val / 128) * 64 + f.val % 64, by omega⟩ := by
  refine Finset.sum_congr rfl fun k _ => ?_
  rw [AbRead.read0, AbRead.read1, AbRead.packed_paired, AbRead.paired_at]
  rfl

theorem dot_plain (c : Dev nD) (t : Fin cfg0.N) (r : Fin 1024) (f : Fin 256) :
    AbBlock.dot (iblk m c 0 t) (iblk m c 1 t) r ⟨1152 + f.val, by omega⟩
      = proj (x m c) (w m c) (batch t) (pos t r) ⟨1184 + f.val, by omega⟩ := by
  refine Finset.sum_congr rfl fun k _ => ?_
  rw [AbRead.read0, AbRead.read1, AbRead.packed_plain]
  rfl

theorem dot_turned (c : Dev nD) (t : Fin cfg0.N) (r : Fin 1024) (l : Fin 128) :
    AbBlock.dot (iblk m c 0 t) (iblk m c 1 t) r ⟨1408 + l.val, by omega⟩
      = spread (fun _ => ∑ k : Fin 1024, x m c (batch t) (pos t r) k * 0)
          (fun j => proj (x m c) (w m c) (batch t) (pos t r) ⟨640 + j.val, by omega⟩) l := by
  refine Eq.trans (Finset.sum_congr rfl fun k _ => ?_)
    (sum_spread (x m c (batch t) (pos t r)) (fun _ _ => 0) (fun k j => w m c k ⟨640 + j.val, by omega⟩) l)
  rw [AbRead.read0, AbRead.read1, AbRead.packed_turned, AbRead.turned_at]
  rfl

theorem latentQ (c : Dev nD) (t : Fin cfg0.N) (r : Fin 1024) (i : Fin 384) :
    normed lenQ (fun j : Fin 384 => AbBlock.dot (iblk m c 0 t) (iblk m c 1 t) r ⟨j.val, by omega⟩)
        (fun j => iblk m c 2 t (ix2 (0 : Fin 1) j)) i
      = normed lenQ (fun j : Fin 384 => proj (x m c) (w m c) (batch t) (pos t r) ⟨j.val, by omega⟩) (gq m c) i := by
  have e1 : (fun j : Fin 384 => AbBlock.dot (iblk m c 0 t) (iblk m c 1 t) r ⟨j.val, by omega⟩)
      = fun j : Fin 384 => proj (x m c) (w m c) (batch t) (pos t r) ⟨j.val, by omega⟩ :=
    funext fun j => dot_latent m c t r ⟨j.val, by omega⟩
  have e2 : (fun j => iblk m c 2 t (ix2 (0 : Fin 1) j)) = gq m c := funext fun j => AbRead.read2 m c t j
  rw [e1, e2]

theorem latentK (c : Dev nD) (t : Fin cfg0.N) (r : Fin 1024) (i : Fin 256) :
    normed lenK (fun j : Fin 256 => AbBlock.dot (iblk m c 0 t) (iblk m c 1 t) r ⟨384 + j.val, by omega⟩)
        (fun j => iblk m c 4 t (ix2 (0 : Fin 1) j)) i
      = normed lenK (fun j : Fin 256 => proj (x m c) (w m c) (batch t) (pos t r) ⟨384 + j.val, by omega⟩) (gk m c) i := by
  have e1 : (fun j : Fin 256 => AbBlock.dot (iblk m c 0 t) (iblk m c 1 t) r ⟨384 + j.val, by omega⟩)
      = fun j : Fin 256 => proj (x m c) (w m c) (batch t) (pos t r) ⟨384 + j.val, by omega⟩ :=
    funext fun j => dot_latent m c t r ⟨384 + j.val, by omega⟩
  have e2 : (fun j => iblk m c 4 t (ix2 (0 : Fin 1) j)) = gk m c := funext fun j => AbRead.read4 m c t j
  rw [e1, e2]

theorem up_head (c : Dev nD) (t : Fin cfg0.N) (r : Fin 1024) (h : Fin 8) (l : Fin 128) :
    AbBlock.up (iblk m c 0 t) (iblk m c 1 t) (iblk m c 2 t) (iblk m c 3 t) r ⟨h.val * 128 + l.val, by omega⟩
      = spread (fun j => q (x m c) (w m c) (gq m c) (wq m c) (batch t) (pos t r) ⟨h.val * 96 + j.val, by omega⟩)
          (fun j => q (x m c) (w m c) (gq m c) (wq m c) (batch t) (pos t r) ⟨h.val * 96 + 64 + j.val, by omega⟩) l := by
  refine Eq.trans (Finset.sum_congr rfl fun i _ => ?_)
    (sum_spread (normed lenQ (fun j : Fin 384 => proj (x m c) (w m c) (batch t) (pos t r) ⟨j.val, by omega⟩) (gq m c))
      (fun i j => wq m c i ⟨h.val * 96 + j.val, by omega⟩) (fun i j => wq m c i ⟨h.val * 96 + 64 + j.val, by omega⟩) l)
  rw [latentQ, AbRead.read3, AbRead.packedQ_at]
  rfl

theorem up_key (c : Dev nD) (t : Fin cfg0.N) (r : Fin 1024) (h : Fin 8) (l : Fin 128) :
    AbBlock.upKV (iblk m c 0 t) (iblk m c 1 t) (iblk m c 4 t) (iblk m c 5 t) r ⟨h.val * 128 + l.val, by omega⟩
      = if h' : l.val < 64 then
          (fun j : Fin 64 => kv (x m c) (w m c) (gk m c) (wk m c) (batch t) (pos t r) ⟨h.val * 128 + j.val, by omega⟩) ⟨l.val, h'⟩
        else 0 := by
  have e : ∀ i : Fin 256, iblk m c 5 t (ix2 i (⟨h.val * 128 + l.val, by omega⟩ : Fin 1536))
      = if l.val < 64 then wk m c i ⟨h.val * 128 + l.val, by omega⟩ else 0 := fun i =>
    (AbRead.read5 m c t i _).trans ((AbRead.packedKV_keys _ i ⟨h.val * 128 + l.val, by omega⟩).trans (AbRead.paddedK_at _ i h l))
  unfold AbBlock.upKV
  simp only [latentK, e]
  split
  · rfl
  · simp only [mul_zero, Finset.sum_const_zero]

theorem up_value (c : Dev nD) (t : Fin cfg0.N) (r : Fin 1024) (f : Fin 512) :
    AbBlock.upKV (iblk m c 0 t) (iblk m c 1 t) (iblk m c 4 t) (iblk m c 5 t) r ⟨1024 + f.val, by omega⟩
      = kv (x m c) (w m c) (gk m c) (wk m c) (batch t) (pos t r) ⟨f.val / 64 * 128 + 64 + f.val % 64, by omega⟩ := by
  refine Finset.sum_congr rfl fun i _ => ?_
  rw [latentK, AbRead.read5, AbRead.packedKV_values, AbRead.columnsV_at]
  rfl

/-! ## The blocks -/

theorem qa_at (c : Dev nD) (t : Fin cfg0.N) (h : Fin 8) (r : Fin 1024) (l : Fin 128) :
    AbBlock.headOf (k0_pay3 (F := Ideal) (iblk m c 0 t) (iblk m c 1 t) (iblk m c 2 t) (iblk m c 3 t)) (iblk m c 6 t) (iblk m c 7 t) h r l
      = qa (x m c) (w m c) (gq m c) (wq m c) cs sn (batch t) h (pos t r) l := by
  refine Eq.trans ?_ (rot_scaled _ _ (cs (pos t r)) (sn (pos t r)) scale scale_nonneg scale_ne_top l)
  have e1 : ∀ j, iblk m c 6 t (ix2 r j) = tab1 1 (cs (pos t r)) j * scale := fun j => by
    rw [AbRead.read6, AbRead.scaled_at, AbRead.tab1_at, Ideal.ofBits_one_f32]
  have e2 : ∀ j, iblk m c 7 t (ix2 r j) = tab2 (sn (pos t r)) j * scale := fun j => by
    rw [AbRead.read7, AbRead.scaled_at, AbRead.tab2_at]
  unfold AbBlock.headOf AbBlock.turn
  simp only [e1, e2, AbBlock.queries, up_head]

theorem ka_at (c : Dev nD) (t : Fin cfg0.N) (h : Fin 8) (r : Fin 1024) (l : Fin 128) :
    AbBlock.keyOf (k0_pay5 (F := Ideal) (k0_pay4 (iblk m c 0 t) (iblk m c 1 t) (iblk m c 4 t)) (iblk m c 5 t))
        (k0_pay6 (k0_pay2 (iblk m c 0 t) (iblk m c 1 t)) (iblk m c 8 t) (iblk m c 9 t)) h r l
      = ka (x m c) (w m c) (gk m c) (wk m c) cs sn (batch t) h (pos t r) l := by
  refine Eq.trans ?_ (rot_beside _ (fun _ => ∑ k : Fin 1024, x m c (batch t) (pos t r) k * 0) _ (cs (pos t r)) (sn (pos t r)) l)
  have e1 : ∀ j, iblk m c 8 t (ix2 r j) = tab1 0 (cs (pos t r)) j := fun j => by
    rw [AbRead.read8, AbRead.tab1_at, Ideal.ofBits_zero_f32]
  have e2 : ∀ j, iblk m c 9 t (ix2 r j) = tab2 (sn (pos t r)) j := fun j => by
    rw [AbRead.read9, AbRead.tab2_at]
  unfold AbBlock.keyOf
  rw [AbBlock.shared, AbBlock.keysValues, up_key]
  unfold AbBlock.turn
  simp only [e1, e2, AbBlock.product, dot_turned]

theorem va_at (c : Dev nD) (t : Fin cfg0.N) (n : Fin 4) (r : Fin 1024) (l : Fin 128) :
    AbBlock.groupOf (k0_pay5 (F := Ideal) (k0_pay4 (iblk m c 0 t) (iblk m c 1 t) (iblk m c 4 t)) (iblk m c 5 t)) 1024 n r l
      = va (x m c) (w m c) (gk m c) (wk m c) (batch t) n (pos t r) l := by
  refine (AbBlock.keysValues _ _ _ _ _ _).trans ((up_value m c t r ⟨n.val * 128 + l.val, by omega⟩).trans ?_)
  unfold va
  refine congrArg (kv _ _ _ _ _ _) (Fin.ext ?_)
  dsimp only
  omega

theorem qs_at (c : Dev nD) (t : Fin cfg0.N) (n : Fin 4) (r : Fin 1024) (l : Fin 128) :
    AbBlock.groupOf (k0_pay2 (F := Ideal) (iblk m c 0 t) (iblk m c 1 t)) 640 n r l * factor
      = qs (x m c) (w m c) (batch t) n (pos t r) l := by
  unfold qs
  refine congrArg (· * factor) ?_
  refine (AbBlock.product _ _ _ _).trans ((dot_paired m c t r ⟨n.val * 128 + l.val, by omega⟩).trans ?_)
  refine congrArg (proj _ _ _ _) (Fin.ext ?_)
  dsimp only
  omega

theorem ks_at (c : Dev nD) (t : Fin cfg0.N) (r : Fin 1024) (l : Fin 128) :
    AbBlock.groupOf (k0_pay2 (F := Ideal) (iblk m c 0 t) (iblk m c 1 t)) 1024 1 r l
      = ks (x m c) (w m c) (batch t) (pos t r) l := by
  unfold AbBlock.groupOf
  rw [AbBlock.product]
  refine Eq.trans (congrArg (AbBlock.dot _ _ r) (Fin.ext ?_)) (dot_plain m c t r ⟨l.val, by omega⟩)
  show 1024 + (1 * 128 + l.val) = 1152 + l.val
  omega

theorem vs_at (c : Dev nD) (t : Fin cfg0.N) (r : Fin 1024) (l : Fin 128) :
    AbBlock.groupOf (k0_pay2 (F := Ideal) (iblk m c 0 t) (iblk m c 1 t)) 1024 2 r l
      = vs (x m c) (w m c) (batch t) (pos t r) l := by
  unfold AbBlock.groupOf
  rw [AbBlock.product]
  refine Eq.trans (congrArg (AbBlock.dot _ _ r) (Fin.ext ?_))
    ((dot_plain m c t r ⟨128 + l.val, by omega⟩).trans (congrArg (proj _ _ _ _) (Fin.ext ?_)))
  · show 1024 + (2 * 128 + l.val) = 1152 + (128 + l.val)
    omega
  · show 1184 + (128 + l.val) = 1312 + l.val
    omega

/-! ## The arrays -/

def arrQA (c : Dev nD) : FVec Ideal S8x8x4096x128 .bf16 := fun i =>
  qa (x m c) (w m c) (gq m c) (wq m c) cs sn (i 0) (i 1) (i 2) (i 3)
def arrKA (c : Dev nD) : FVec Ideal S8x8x4096x128 .bf16 := fun i =>
  ka (x m c) (w m c) (gk m c) (wk m c) cs sn (i 0) (i 1) (i 2) (i 3)
def arrVA (c : Dev nD) : FVec Ideal S8x4x4096x128 .bf16 := fun i => va (x m c) (w m c) (gk m c) (wk m c) (i 0) (i 1) (i 2) (i 3)
def arrQS (c : Dev nD) : FVec Ideal S8x4x4096x128 .bf16 := fun i => qs (x m c) (w m c) (i 0) (i 1) (i 2) (i 3)
def arrKS (c : Dev nD) : FVec Ideal S8x1x4096x128 .bf16 := fun i => ks (x m c) (w m c) (i 0) (i 2) (i 3)
def arrVS (c : Dev nD) : FVec Ideal S8x1x4096x128 .bf16 := fun i => vs (x m c) (w m c) (i 0) (i 2) (i 3)

theorem place10 (t : Fin cfg0.N) (y0 : Fin 1) (n : Fin 8) (r : Fin 1024) (l : Fin 128) :
    (((View.whole main_v63_0).slice (win0_10.rect t)).emb (ix4 y0 n r l) : S8x8x4096x128.Idx) = ix4 (batch t) n (pos t r) l := by
  have h : t.val < 32 := t.isLt
  blk_ext [AbRead.idx_out t, batch, pos]

theorem place11 (t : Fin cfg0.N) (y0 : Fin 1) (n : Fin 8) (r : Fin 1024) (l : Fin 128) :
    (((View.whole main_v63_1).slice (win0_11.rect t)).emb (ix4 y0 n r l) : S8x8x4096x128.Idx) = ix4 (batch t) n (pos t r) l := by
  have h : t.val < 32 := t.isLt
  blk_ext [AbRead.idx_out t, batch, pos]

theorem place12 (t : Fin cfg0.N) (y0 : Fin 1) (n : Fin 4) (r : Fin 1024) (l : Fin 128) :
    (((View.whole main_v63_2).slice (win0_12.rect t)).emb (ix4 y0 n r l) : S8x4x4096x128.Idx) = ix4 (batch t) n (pos t r) l := by
  have h : t.val < 32 := t.isLt
  blk_ext [AbRead.idx_out t, batch, pos]

theorem place13 (t : Fin cfg0.N) (y0 : Fin 1) (n : Fin 4) (r : Fin 1024) (l : Fin 128) :
    (((View.whole main_v63_3).slice (win0_13.rect t)).emb (ix4 y0 n r l) : S8x4x4096x128.Idx) = ix4 (batch t) n (pos t r) l := by
  have h : t.val < 32 := t.isLt
  blk_ext [AbRead.idx_out t, batch, pos]

theorem place14 (t : Fin cfg0.N) (y0 : Fin 1) (n : Fin 1) (r : Fin 1024) (l : Fin 128) :
    (((View.whole main_v63_4).slice (win0_14.rect t)).emb (ix4 y0 n r l) : S8x1x4096x128.Idx) = ix4 (batch t) n (pos t r) l := by
  have h : t.val < 32 := t.isLt
  blk_ext [AbRead.idx_out t, batch, pos]

theorem place15 (t : Fin cfg0.N) (y0 : Fin 1) (n : Fin 1) (r : Fin 1024) (l : Fin 128) :
    (((View.whole main_v63_5).slice (win0_15.rect t)).emb (ix4 y0 n r l) : S8x1x4096x128.Idx) = ix4 (batch t) n (pos t r) l := by
  have h : t.val < 32 := t.isLt
  blk_ext [AbRead.idx_out t, batch, pos]

theorem final10 (c : Dev nD) : (dats m 0 c).arrAt 10 (cfgs 0).N = arrQA m c := by
  refine (dats m 0 c).arrAt_eq_of_covers 10 _ (by decide +kernel) fun t _ y => ?_
  blk_simp
  rw [after0_10]
  idx_vars y
  rw [place10 t y0 y1 y2 y3]
  exact (AbBlock.qa _ _ _ _ _ _ _ _ _ _ (ix4 y0 y1 y2 y3)).trans (qa_at m c t y1 y2 y3)

theorem final11 (c : Dev nD) : (dats m 0 c).arrAt 11 (cfgs 0).N = arrKA m c := by
  refine (dats m 0 c).arrAt_eq_of_covers 11 _ (by decide +kernel) fun t _ y => ?_
  blk_simp
  rw [after0_11]
  idx_vars y
  rw [place11 t y0 y1 y2 y3]
  exact (AbBlock.ka _ _ _ _ _ _ _ _ _ _ (ix4 y0 y1 y2 y3)).trans (ka_at m c t y1 y2 y3)

theorem final12 (c : Dev nD) : (dats m 0 c).arrAt 12 (cfgs 0).N = arrVA m c := by
  refine (dats m 0 c).arrAt_eq_of_covers 12 _ (by decide +kernel) fun t _ y => ?_
  blk_simp
  rw [after0_12]
  idx_vars y
  rw [place12 t y0 y1 y2 y3]
  exact (AbBlock.va _ _ _ _ _ _ _ _ _ _ (ix4 y0 y1 y2 y3)).trans (va_at m c t y1 y2 y3)

theorem final13 (c : Dev nD) : (dats m 0 c).arrAt 13 (cfgs 0).N = arrQS m c := by
  refine (dats m 0 c).arrAt_eq_of_covers 13 _ (by decide +kernel) fun t _ y => ?_
  blk_simp
  rw [after0_13]
  idx_vars y
  rw [place13 t y0 y1 y2 y3]
  exact (AbBlock.qs _ _ _ _ _ _ _ _ _ _ (ix4 y0 y1 y2 y3)).trans (qs_at m c t y1 y2 y3)

theorem final14 (c : Dev nD) : (dats m 0 c).arrAt 14 (cfgs 0).N = arrKS m c := by
  refine (dats m 0 c).arrAt_eq_of_covers 14 _ (by decide +kernel) fun t _ y => ?_
  blk_simp
  rw [after0_14]
  idx_vars y
  rw [place14 t y0 y1 y2 y3]
  exact (AbBlock.ks _ _ _ _ _ _ _ _ _ _ (ix4 y0 y1 y2 y3)).trans (ks_at m c t y2 y3)

theorem final15 (c : Dev nD) : (dats m 0 c).arrAt 15 (cfgs 0).N = arrVS m c := by
  refine (dats m 0 c).arrAt_eq_of_covers 15 _ (by decide +kernel) fun t _ y => ?_
  blk_simp
  rw [after0_15]
  idx_vars y
  rw [place15 t y0 y1 y2 y3]
  exact (AbBlock.vs _ _ _ _ _ _ _ _ _ _ (ix4 y0 y1 y2 y3)).trans (vs_at m c t y2 y3)

end Cert.AbArray

end
-- ==== Proof.AbRef.lean ====
/- The first layer's projection in the reference, entry by entry: the latent norms, the rotations, the six results. -/
module

public import proofs.«01_k».proof.Proof.Gen.Reference1Ideal.Run
public import proofs.«01_k».proof.Proof.AbRow
public import Idealize.ShloMosaic.Lib.Pointwise

@[expose] public section

set_option maxRecDepth 16384

noncomputable section

namespace Cert.AbRef

open Idealize.ShloMosaic Idealize.ShloMosaic.TcCoe
open Cert.Reference1Ideal Cert.Reference1Ideal.Gen Cert.AbRow

variable (X : FVec Ideal S8x4096x1024 .f32) (W : FVec Ideal S1024x1440 .f32) (Gq : FVec Ideal S384 .f32)
  (Wq : FVec Ideal S384x768 .f32) (Gk : FVec Ideal S256 .f32) (Wk : FVec Ideal S256x1024 .f32)

/-- The arguments by their coordinates. -/
abbrev x (b : Fin 8) (s : Fin 4096) (k : Fin 1024) : EReal := X (ix3 b s k)
abbrev w (k : Fin 1024) (f : Fin 1440) : EReal := W (ix2 k f)
abbrev gq (i : Fin 384) : EReal := Gq (ix1 i)
abbrev wq (i : Fin 384) (f : Fin 768) : EReal := Wq (ix2 i f)
abbrev gk (i : Fin 256) : EReal := Gk (ix1 i)
abbrev wk (i : Fin 256) (f : Fin 1024) : EReal := Wk (ix2 i f)

/-! ## The projection, the norms, the projections up -/

def product : FVec Ideal S8x4096x1440 .f32 :=
  Host.dotGeneral dot_S8x4096x1024_S1024x1440_S8x4096x1440_2_0_01_1_n_n none X W

theorem product_at (b : Fin 8) (s : Fin 4096) (f : Fin 1440) : product X W (ix3 b s f) = proj (x X) (w W) b s f := by
  pointwise [product]
  rfl

def latentQ (P : FVec Ideal S8x4096x1440 .f32) : FVec Ideal S8x4096x384 .f32 :=
  extractStridedSlice S8x4096x384 ![0, 0, 0] P slices_S8x4096x1440_S8x4096x384_0_0_0

def latentK (P : FVec Ideal S8x4096x1440 .f32) : FVec Ideal S8x4096x256 .f32 :=
  extractStridedSlice S8x4096x256 ![0, 0, 384] P slices_S8x4096x1440_S8x4096x256_0_0_384

theorem latentQ_at (P : FVec Ideal S8x4096x1440 .f32) (b : Fin 8) (s : Fin 4096) (i : Fin 384) :
    latentQ P (ix3 b s i) = P (ix3 b s (⟨i.val, by omega⟩ : Fin 1440)) := by
  pointwise [latentQ]

theorem latentK_at (P : FVec Ideal S8x4096x1440 .f32) (b : Fin 8) (s : Fin 4096) (i : Fin 256) :
    latentK P (ix3 b s i) = P (ix3 b s (⟨384 + i.val, by omega⟩ : Fin 1440)) := by
  pointwise [latentK]

def normQ (C : FVec Ideal S8x4096x384 .f32) : FVec Ideal S8x4096x384 .f32 :=
  mulf (mulf C (broadcastInDim S8x4096x384 ![0, 1, 2] bcast_S8x4096x1_S8x4096x384_0_1_2
    (Host.rsqrt (addf (Host.divf (broadcastInDim S8x4096x1 ![0, 1] bcast_S8x4096_S8x4096x1_0_1
        (Host.reduceAdd (mulf C C) (constant S_ .f32 0x00000000#32) reducesTo_S8x4096x384_S8x4096_d2 h_S_))
        (broadcastInDim S8x4096x1 ![] bcast_S_S8x4096x1 (constant S_ .f32 0x43C00000#32)))
      (broadcastInDim S8x4096x1 ![] bcast_S_S8x4096x1 (constant S_ .f32 0x358637BD#32))))))
    (broadcastInDim S8x4096x384 ![0, 1, 2] bcast_S1x1x384_S8x4096x384_0_1_2 (broadcastInDim S1x1x384 ![2] bcast_S384_S1x1x384_2 Gq))

def normK (C : FVec Ideal S8x4096x256 .f32) : FVec Ideal S8x4096x256 .f32 :=
  mulf (mulf C (broadcastInDim S8x4096x256 ![0, 1, 2] bcast_S8x4096x1_S8x4096x256_0_1_2
    (Host.rsqrt (addf (Host.divf (broadcastInDim S8x4096x1 ![0, 1] bcast_S8x4096_S8x4096x1_0_1
        (Host.reduceAdd (mulf C C) (constant S_ .f32 0x00000000#32) reducesTo_S8x4096x256_S8x4096_d2 h_S_))
        (broadcastInDim S8x4096x1 ![] bcast_S_S8x4096x1 (constant S_ .f32 0x43800000#32)))
      (broadcastInDim S8x4096x1 ![] bcast_S_S8x4096x1 (constant S_ .f32 0x358637BD#32))))))
    (broadcastInDim S8x4096x256 ![0, 1, 2] bcast_S1x1x256_S8x4096x256_0_1_2 (broadcastInDim S1x1x256 ![2] bcast_S256_S1x1x256_2 Gk))

theorem normQ_at (C : FVec Ideal S8x4096x384 .f32) (b : Fin 8) (s : Fin 4096) (i : Fin 384) :
    normQ Gq C (ix3 b s i) = normed lenQ (fun j => C (ix3 b s j)) (gq Gq) i := by
  pointwise [normQ]
  rfl

theorem normK_at (C : FVec Ideal S8x4096x256 .f32) (b : Fin 8) (s : Fin 4096) (i : Fin 256) :
    normK Gk C (ix3 b s i) = normed lenK (fun j => C (ix3 b s j)) (gk Gk) i := by
  pointwise [normK]
  rfl

def upQ (N : FVec Ideal S8x4096x384 .f32) : FVec Ideal S8x4096x768 .f32 :=
  Host.dotGeneral dot_S8x4096x384_S384x768_S8x4096x768_2_0_01_1_n_n none N Wq

def upK (N : FVec Ideal S8x4096x256 .f32) : FVec Ideal S8x4096x1024 .f32 :=
  Host.dotGeneral dot_S8x4096x256_S256x1024_S8x4096x1024_2_0_01_1_n_n none N Wk

theorem upQ_at (N : FVec Ideal S8x4096x384 .f32) (b : Fin 8) (s : Fin 4096) (f : Fin 768) :
    upQ Wq N (ix3 b s f) = ∑ i : Fin 384, N (ix3 b s i) * wq Wq i f := by
  pointwise [upQ]

theorem upK_at (N : FVec Ideal S8x4096x256 .f32) (b : Fin 8) (s : Fin 4096) (f : Fin 1024) :
    upK Wk N (ix3 b s f) = ∑ i : Fin 256, N (ix3 b s i) * wk Wk i f := by
  pointwise [upK]

/-- The queries of the eight heads, and the keys and values. -/
def queries : FVec Ideal S8x4096x8x96 .f32 :=
  shapeCast S8x4096x8x96 (upQ Wq (normQ Gq (latentQ (product X W)))) shapeCasts_S8x4096x768_S8x4096x8x96

def keysValues : FVec Ideal S8x4096x8x128 .f32 :=
  shapeCast S8x4096x8x128 (upK Wk (normK Gk (latentK (product X W)))) shapeCasts_S8x4096x1024_S8x4096x8x128

theorem heads96 (Y : FVec Ideal S8x4096x768 .f32) (b : Fin 8) (s : Fin 4096) (h : Fin 8) (j : Fin 96) :
    shapeCast S8x4096x8x96 Y shapeCasts_S8x4096x768_S8x4096x8x96 (ix4 b s h j) = Y (ix3 b s ⟨h.val * 96 + j.val, by omega⟩) := by
  pointwise

theorem heads128 (Y : FVec Ideal S8x4096x1024 .f32) (b : Fin 8) (s : Fin 4096) (h : Fin 8) (j : Fin 128) :
    shapeCast S8x4096x8x128 Y shapeCasts_S8x4096x1024_S8x4096x8x128 (ix4 b s h j) = Y (ix3 b s ⟨h.val * 128 + j.val, by omega⟩) := by
  pointwise

theorem queries_at (b : Fin 8) (s : Fin 4096) (h : Fin 8) (j : Fin 96) :
    queries X W Gq Wq (ix4 b s h j) = q (x X) (w W) (gq Gq) (wq Wq) b s ⟨h.val * 96 + j.val, by omega⟩ := by
  refine (heads96 _ b s h j).trans ?_
  rw [upQ_at]
  unfold q
  simp only [normQ_at, latentQ_at, product_at]

theorem keysValues_at (b : Fin 8) (s : Fin 4096) (h : Fin 8) (j : Fin 128) :
    keysValues X W Gk Wk (ix4 b s h j) = kv (x X) (w W) (gk Gk) (wk Wk) b s ⟨h.val * 128 + j.val, by omega⟩ := by
  refine (heads128 _ b s h j).trans ?_
  rw [upK_at]
  unfold kv
  simp only [normK_at, latentK_at, product_at]

/-! ## The rotations -/

/-- The angles: the position times the frequency's inverse. -/
def angle : FVec Ideal S4096x16 .f32 :=
  mulf (broadcastInDim S4096x16 ![0, 1] bcast_S4096x1_S4096x16_0_1
      (broadcastInDim S4096x1 ![0] bcast_S4096_S4096x1_0 (sitofp .f32 (iotaInDim S4096 32 0))))
    (broadcastInDim S4096x16 ![0, 1] bcast_S1x16_S4096x16_0_1 (broadcastInDim S1x16 ![1] bcast_S16_S1x16_1
      (Host.powf (broadcastInDim S16 ![] bcast_S_S16 (constant S_ .f32 0x461C4000#32))
        (Host.divf (Host.negf (addf (broadcastInDim S16 ![] bcast_S_S16 (constant S_ .f32 0x00000000#32))
            (mulf (broadcastInDim S16 ![] bcast_S_S16 (constant S_ .f32 0x40000000#32)) (sitofp .f32 (iotaInDim S16 32 0)))))
          (broadcastInDim S16 ![] bcast_S_S16 (constant S_ .f32 0x42000000#32))))))

variable (A : FVec Ideal S4096x16 .f32)

/-- A table of the positions for all batches and heads, and for all batches. -/
def over4 (T : FVec Ideal S4096x16 .f32) : FVec Ideal S8x4096x8x16 .f32 :=
  broadcastInDim S8x4096x8x16 ![0, 1, 2, 3] bcast_S1x4096x1x16_S8x4096x8x16_0_1_2_3
    (broadcastInDim S1x4096x1x16 ![1, 3] bcast_S4096x16_S1x4096x1x16_1_3 T)

def over3 (T : FVec Ideal S4096x16 .f32) : FVec Ideal S8x4096x16 .f32 :=
  broadcastInDim S8x4096x16 ![0, 1, 2] bcast_S1x4096x16_S8x4096x16_0_1_2
    (broadcastInDim S1x4096x16 ![1, 2] bcast_S4096x16_S1x4096x16_1_2 T)

theorem over4_at (T : FVec Ideal S4096x16 .f32) (b : Fin 8) (s : Fin 4096) (h : Fin 8) (j : Fin 16) :
    over4 T (ix4 b s h j) = T (ix2 s j) := by
  pointwise [over4]

theorem over3_at (T : FVec Ideal S4096x16 .f32) (b : Fin 8) (s : Fin 4096) (j : Fin 16) : over3 T (ix3 b s j) = T (ix2 s j) := by
  pointwise [over3]

def low4 (R : FVec Ideal S8x4096x8x32 .f32) : FVec Ideal S8x4096x8x16 .f32 :=
  extractStridedSlice S8x4096x8x16 ![0, 0, 0, 0] R slices_S8x4096x8x32_S8x4096x8x16_0_0_0_0
def high4 (R : FVec Ideal S8x4096x8x32 .f32) : FVec Ideal S8x4096x8x16 .f32 :=
  extractStridedSlice S8x4096x8x16 ![0, 0, 0, 16] R slices_S8x4096x8x32_S8x4096x8x16_0_0_0_16
def low3 (R : FVec Ideal S8x4096x32 .f32) : FVec Ideal S8x4096x16 .f32 :=
  extractStridedSlice S8x4096x16 ![0, 0, 0] R slices_S8x4096x32_S8x4096x16_0_0_0
def high3 (R : FVec Ideal S8x4096x32 .f32) : FVec Ideal S8x4096x16 .f32 :=
  extractStridedSlice S8x4096x16 ![0, 0, 16] R slices_S8x4096x32_S8x4096x16_0_0_16

theorem low4_at (R : FVec Ideal S8x4096x8x32 .f32) (b : Fin 8) (s : Fin 4096) (h : Fin 8) (j : Fin 16) :
    low4 R (ix4 b s h j) = R (ix4 b s h (⟨j.val, by omega⟩ : Fin 32)) := by
  pointwise [low4]
theorem high4_at (R : FVec Ideal S8x4096x8x32 .f32) (b : Fin 8) (s : Fin 4096) (h : Fin 8) (j : Fin 16) :
    high4 R (ix4 b s h j) = R (ix4 b s h (⟨16 + j.val, by omega⟩ : Fin 32)) := by
  pointwise [high4]
theorem low3_at (R : FVec Ideal S8x4096x32 .f32) (b : Fin 8) (s : Fin 4096) (j : Fin 16) :
    low3 R (ix3 b s j) = R (ix3 b s (⟨j.val, by omega⟩ : Fin 32)) := by
  pointwise [low3]
theorem high3_at (R : FVec Ideal S8x4096x32 .f32) (b : Fin 8) (s : Fin 4096) (j : Fin 16) :
    high3 R (ix3 b s j) = R (ix3 b s (⟨16 + j.val, by omega⟩ : Fin 32)) := by
  pointwise [high3]

/-- Two halves of a rotation side by side. -/
def beside4 (a b : FVec Ideal S8x4096x8x16 .f32) : FVec Ideal S8x4096x8x32 .f32 :=
  concatenate S8x4096x8x32 3 [⟨S8x4096x8x16, a⟩, ⟨S8x4096x8x16, b⟩] concatenates_S8x4096x8x16_S8x4096x8x16_S8x4096x8x32_d3

def beside3 (a b : FVec Ideal S8x4096x16 .f32) : FVec Ideal S8x4096x32 .f32 :=
  concatenate S8x4096x32 2 [⟨S8x4096x16, a⟩, ⟨S8x4096x16, b⟩] concatenates_S8x4096x16_S8x4096x16_S8x4096x32_d2

theorem beside4_at (a c : FVec Ideal S8x4096x8x16 .f32) (b : Fin 8) (s : Fin 4096) (h : Fin 8) (j : Fin 32) :
    beside4 a c (ix4 b s h j) = if hj : j.val < 16 then a (ix4 b s h ⟨j.val, hj⟩) else c (ix4 b s h ⟨j.val - 16, by omega⟩) := by
  pointwise [beside4]

theorem beside3_at (a c : FVec Ideal S8x4096x16 .f32) (b : Fin 8) (s : Fin 4096) (j : Fin 32) :
    beside3 a c (ix3 b s j) = if hj : j.val < 16 then a (ix3 b s ⟨j.val, hj⟩) else c (ix3 b s ⟨j.val - 16, by omega⟩) := by
  pointwise [beside3]

def turn4 (R : FVec Ideal S8x4096x8x32 .f32) : FVec Ideal S8x4096x8x32 .f32 :=
  beside4 (subf (mulf (low4 R) (over4 (Host.cos A))) (mulf (high4 R) (over4 (Host.sin A))))
    (addf (mulf (low4 R) (over4 (Host.sin A))) (mulf (high4 R) (over4 (Host.cos A))))

def turn3 (R : FVec Ideal S8x4096x32 .f32) : FVec Ideal S8x4096x32 .f32 :=
  beside3 (subf (mulf (low3 R) (over3 (Host.cos A))) (mulf (high3 R) (over3 (Host.sin A))))
    (addf (mulf (low3 R) (over3 (Host.sin A))) (mulf (high3 R) (over3 (Host.cos A))))

/-- The rotated lanes, by themselves. -/
def rotated (r : Fin 32 → EReal) (cs sn : Fin 16 → EReal) (j : Fin 32) : EReal :=
  if hj : j.val < 16 then r ⟨j.val, by omega⟩ * cs ⟨j.val, hj⟩ - r ⟨16 + j.val, by omega⟩ * sn ⟨j.val, hj⟩
  else r ⟨j.val - 16, by omega⟩ * sn ⟨j.val - 16, by omega⟩ + r ⟨16 + (j.val - 16), by omega⟩ * cs ⟨j.val - 16, by omega⟩

theorem turn4_at (R : FVec Ideal S8x4096x8x32 .f32) (b : Fin 8) (s : Fin 4096) (h : Fin 8) (j : Fin 32) :
    turn4 A R (ix4 b s h j)
      = rotated (fun j => R (ix4 b s h j)) (fun j => Host.cos A (ix2 s j)) (fun j => Host.sin A (ix2 s j)) j := by
  refine (beside4_at _ _ b s h j).trans ?_
  unfold rotated
  refine dite_congr rfl (fun hj => ?_) (fun hj => ?_)
  · refine (congrArg₂ (· - ·) (congrArg₂ (· * ·) (low4_at R b s h _) (over4_at _ b s h _))
      (congrArg₂ (· * ·) (high4_at R b s h _) (over4_at _ b s h _)))
  · refine (congrArg₂ (· + ·) (congrArg₂ (· * ·) (low4_at R b s h _) (over4_at _ b s h _))
      (congrArg₂ (· * ·) (high4_at R b s h _) (over4_at _ b s h _)))

theorem turn3_at (R : FVec Ideal S8x4096x32 .f32) (b : Fin 8) (s : Fin 4096) (j : Fin 32) :
    turn3 A R (ix3 b s j)
      = rotated (fun j => R (ix3 b s j)) (fun j => Host.cos A (ix2 s j)) (fun j => Host.sin A (ix2 s j)) j := by
  refine (beside3_at _ _ b s j).trans ?_
  unfold rotated
  refine dite_congr rfl (fun hj => ?_) (fun hj => ?_)
  · refine (congrArg₂ (· - ·) (congrArg₂ (· * ·) (low3_at R b s _) (over3_at _ b s _))
      (congrArg₂ (· * ·) (high3_at R b s _) (over3_at _ b s _)))
  · refine (congrArg₂ (· + ·) (congrArg₂ (· * ·) (low3_at R b s _) (over3_at _ b s _))
      (congrArg₂ (· * ·) (high3_at R b s _) (over3_at _ b s _)))

/-! ## The heads -/

/-- A head's lanes: as they are, rotated, zeros. -/
def head (u : FVec Ideal S8x4096x8x64 .f32) (r : FVec Ideal S8x4096x8x32 .f32) : FVec Ideal S8x4096x8x128 .f32 :=
  concatenate S8x4096x8x128 3 [⟨S8x4096x8x64, u⟩, ⟨S8x4096x8x32, r⟩,
    ⟨S8x4096x8x32, broadcastInDim S8x4096x8x32 ![] bcast_S_S8x4096x8x32 (constant (F := Ideal) S_ .f32 0x00000000#32)⟩]
    concatenates_S8x4096x8x64_S8x4096x8x32_S8x4096x8x32_S8x4096x8x128_d3

theorem head_lanes (u : FVec Ideal S8x4096x8x64 .f32) (r : FVec Ideal S8x4096x8x32 .f32) (b : Fin 8) (s : Fin 4096) (h : Fin 8)
    (l : Fin 128) :
    head u r (ix4 b s h l) = if hl : l.val < 64 then u (ix4 b s h ⟨l.val, hl⟩)
      else if hl' : l.val < 96 then r (ix4 b s h ⟨l.val - 64, by omega⟩) else 0 := by
  pointwise [head]
  have e : (l.val - 64 < 32) = (l.val < 96) := propext (by omega)
  simp only [e]

theorem head_at (u : FVec Ideal S8x4096x8x64 .f32) (r : FVec Ideal S8x4096x8x32 .f32) (b : Fin 8) (s : Fin 4096) (h : Fin 8)
    (v : Fin 64 → EReal) (z : Fin 32 → EReal) (cs sn : Fin 16 → EReal) (hu : ∀ j, u (ix4 b s h j) = v j)
    (hr : ∀ j, r (ix4 b s h j) = rotated z cs sn j) (l : Fin 128) : head u r (ix4 b s h l) = rot v z cs sn l := by
  rw [head_lanes]
  unfold rot
  refine dite_congr rfl (fun h0 => hu _) (fun h0 => ?_)
  by_cases h1 : l.val < 80
  · rw [dif_pos h1, dif_pos (by omega), hr]
    unfold rotated
    rw [dif_pos (show l.val - 64 < 16 by omega)]
    have e : (⟨16 + (l.val - 64), by omega⟩ : Fin 32) = ⟨l.val - 48, by omega⟩ := Fin.ext (by show 16 + (l.val - 64) = l.val - 48; omega)
    dsimp only
    rw [e]
  · rw [dif_neg h1]
    by_cases h2 : l.val < 96
    · rw [dif_pos h2, dif_pos h2, hr]
      unfold rotated
      rw [dif_neg (show ¬ l.val - 64 < 16 by omega)]
      have e : (⟨16 + (l.val - 64 - 16), by omega⟩ : Fin 32) = ⟨l.val - 64, by omega⟩ :=
        Fin.ext (by show 16 + (l.val - 64 - 16) = l.val - 64; omega)
      have e' : (⟨l.val - 64 - 16, by omega⟩ : Fin 32) = ⟨l.val - 80, by omega⟩ := Fin.ext (by show l.val - 64 - 16 = l.val - 80; omega)
      have e'' : (⟨l.val - 64 - 16, by omega⟩ : Fin 16) = ⟨l.val - 80, by omega⟩ := Fin.ext (by show l.val - 64 - 16 = l.val - 80; omega)
      dsimp only
      rw [e, e', e'']
    · rw [dif_neg h2, dif_neg h2]

def plainQ (Q : FVec Ideal S8x4096x8x96 .f32) : FVec Ideal S8x4096x8x64 .f32 :=
  extractStridedSlice S8x4096x8x64 ![0, 0, 0, 0] Q slices_S8x4096x8x96_S8x4096x8x64_0_0_0_0
def turnQ (Q : FVec Ideal S8x4096x8x96 .f32) : FVec Ideal S8x4096x8x32 .f32 :=
  extractStridedSlice S8x4096x8x32 ![0, 0, 0, 64] Q slices_S8x4096x8x96_S8x4096x8x32_0_0_0_64
def plainK (K : FVec Ideal S8x4096x8x128 .f32) : FVec Ideal S8x4096x8x64 .f32 :=
  extractStridedSlice S8x4096x8x64 ![0, 0, 0, 0] K slices_S8x4096x8x128_S8x4096x8x64_0_0_0_0
def turnK (P : FVec Ideal S8x4096x1440 .f32) : FVec Ideal S8x4096x32 .f32 :=
  extractStridedSlice S8x4096x32 ![0, 0, 640] P slices_S8x4096x1440_S8x4096x32_0_0_640
def valuesOf (K : FVec Ideal S8x4096x8x128 .f32) : FVec Ideal S8x4096x8x64 .f32 :=
  extractStridedSlice S8x4096x8x64 ![0, 0, 0, 64] K slices_S8x4096x8x128_S8x4096x8x64_0_0_0_64

/-- Rotated keys, the same for every head. -/
def everyHead (R : FVec Ideal S8x4096x32 .f32) : FVec Ideal S8x4096x8x32 .f32 :=
  broadcastInDim S8x4096x8x32 ![0, 1, 2, 3] bcast_S8x4096x1x32_S8x4096x8x32_0_1_2_3
    (broadcastInDim S8x4096x1x32 ![0, 1, 3] bcast_S8x4096x32_S8x4096x1x32_0_1_3 R)

theorem plainQ_at (Q : FVec Ideal S8x4096x8x96 .f32) (b : Fin 8) (s : Fin 4096) (h : Fin 8) (j : Fin 64) :
    plainQ Q (ix4 b s h j) = Q (ix4 b s h (⟨j.val, by omega⟩ : Fin 96)) := by
  pointwise [plainQ]
theorem turnQ_at (Q : FVec Ideal S8x4096x8x96 .f32) (b : Fin 8) (s : Fin 4096) (h : Fin 8) (j : Fin 32) :
    turnQ Q (ix4 b s h j) = Q (ix4 b s h (⟨64 + j.val, by omega⟩ : Fin 96)) := by
  pointwise [turnQ]
theorem plainK_at (K : FVec Ideal S8x4096x8x128 .f32) (b : Fin 8) (s : Fin 4096) (h : Fin 8) (j : Fin 64) :
    plainK K (ix4 b s h j) = K (ix4 b s h (⟨j.val, by omega⟩ : Fin 128)) := by
  pointwise [plainK]
theorem turnK_at (P : FVec Ideal S8x4096x1440 .f32) (b : Fin 8) (s : Fin 4096) (j : Fin 32) :
    turnK P (ix3 b s j) = P (ix3 b s (⟨640 + j.val, by omega⟩ : Fin 1440)) := by
  pointwise [turnK]
theorem valuesOf_at (K : FVec Ideal S8x4096x8x128 .f32) (b : Fin 8) (s : Fin 4096) (h : Fin 8) (j : Fin 64) :
    valuesOf K (ix4 b s h j) = K (ix4 b s h (⟨64 + j.val, by omega⟩ : Fin 128)) := by
  pointwise [valuesOf]
theorem everyHead_at (R : FVec Ideal S8x4096x32 .f32) (b : Fin 8) (s : Fin 4096) (h : Fin 8) (j : Fin 32) :
    everyHead R (ix4 b s h j) = R (ix3 b s j) := by
  pointwise [everyHead]

/-- Each head's tokens together: eight heads, four pairs of heads, one head. -/
def by8 (Y : FVec Ideal S8x4096x8x128 .f32) : FVec Ideal S8x8x4096x128 .bf16 :=
  truncf .bf16 (transpose S8x8x4096x128 [0, 2, 1, 3] Y transposes_S8x4096x8x128_S8x8x4096x128_0_2_1_3) bitsLt_bf16_f32
def by4 (Y : FVec Ideal S8x4096x4x128 .f32) : FVec Ideal S8x4x4096x128 .bf16 :=
  truncf .bf16 (transpose S8x4x4096x128 [0, 2, 1, 3] Y transposes_S8x4096x4x128_S8x4x4096x128_0_2_1_3) bitsLt_bf16_f32
def by1 (Y : FVec Ideal S8x4096x128 .f32) : FVec Ideal S8x1x4096x128 .bf16 :=
  truncf .bf16 (transpose S8x1x4096x128 [0, 2, 1, 3] (shapeCast S8x4096x1x128 Y shapeCasts_S8x4096x128_S8x4096x1x128)
    transposes_S8x4096x1x128_S8x1x4096x128_0_2_1_3) bitsLt_bf16_f32

theorem by8_at (Y : FVec Ideal S8x4096x8x128 .f32) (b : Fin 8) (h : Fin 8) (s : Fin 4096) (l : Fin 128) :
    by8 Y (ix4 b h s l) = Y (ix4 b s h l) := by
  pointwise [by8]
theorem by4_at (Y : FVec Ideal S8x4096x4x128 .f32) (b : Fin 8) (h : Fin 4) (s : Fin 4096) (l : Fin 128) :
    by4 Y (ix4 b h s l) = Y (ix4 b s h l) := by
  pointwise [by4]
theorem by1_at (Y : FVec Ideal S8x4096x128 .f32) (b : Fin 8) (h : Fin 1) (s : Fin 4096) (l : Fin 128) :
    by1 Y (ix4 b h s l) = Y (ix3 b s l) := by
  pointwise [by1]

def scaled8 (Y : FVec Ideal S8x4096x8x128 .f32) : FVec Ideal S8x4096x8x128 .f32 :=
  mulf Y (broadcastInDim S8x4096x8x128 ![] bcast_S_S8x4096x8x128 (constant S_ .f32 0x3E16C740#32))
def scaled4 (Y : FVec Ideal S8x4096x4x128 .f32) : FVec Ideal S8x4096x4x128 .f32 :=
  mulf Y (broadcastInDim S8x4096x4x128 ![] bcast_S_S8x4096x4x128 (constant S_ .f32 0x3E38AA3B#32))

theorem scaled8_at (Y : FVec Ideal S8x4096x8x128 .f32) (b : Fin 8) (s : Fin 4096) (h : Fin 8) (l : Fin 128) :
    scaled8 Y (ix4 b s h l) = Y (ix4 b s h l) * scale := by
  pointwise [scaled8]
theorem scaled4_at (Y : FVec Ideal S8x4096x4x128 .f32) (b : Fin 8) (s : Fin 4096) (h : Fin 4) (l : Fin 128) :
    scaled4 Y (ix4 b s h l) = Y (ix4 b s h l) * factor := by
  pointwise [scaled4]

/-- Two heads of 64 lanes side by side: neighbours, and those of two groups. -/
def neighbours (Y : FVec Ideal S8x4096x8x64 .f32) : FVec Ideal S8x4096x4x128 .f32 :=
  shapeCast S8x4096x4x128 Y shapeCasts_S8x4096x8x64_S8x4096x4x128

def swapped (Y : FVec Ideal S8x4096x512 .f32) : FVec Ideal S8x4096x4x2x64 .f32 :=
  transpose S8x4096x4x2x64 [0, 1, 3, 2, 4] (shapeCast S8x4096x2x4x64 Y shapeCasts_S8x4096x512_S8x4096x2x4x64)
    transposes_S8x4096x2x4x64_S8x4096x4x2x64_0_1_3_2_4

def paired (Y : FVec Ideal S8x4096x4x2x64 .f32) : FVec Ideal S8x4096x4x128 .f32 :=
  shapeCast S8x4096x4x128 Y shapeCasts_S8x4096x4x2x64_S8x4096x4x128

theorem neighbours_at (Y : FVec Ideal S8x4096x8x64 .f32) (b : Fin 8) (s : Fin 4096) (j : Fin 4) (l : Fin 128) :
    neighbours Y (ix4 b s j l) = Y (ix4 b s (⟨2 * j.val + l.val / 64, by omega⟩ : Fin 8) (⟨l.val % 64, by omega⟩ : Fin 64)) := by
  pointwise [neighbours]
  exact congrArg (fun h => Y (ix4 b s h _)) (Fin.ext (by dsimp only <;> omega))

theorem swapped_at (Y : FVec Ideal S8x4096x512 .f32) (b : Fin 8) (s : Fin 4096) (j : Fin 4) (g : Fin 2) (l : Fin 64) :
    swapped Y (ix5 b s j g l) = Y (ix3 b s (⟨g.val * 256 + j.val * 64 + l.val, by omega⟩ : Fin 512)) := by
  pointwise [swapped]

theorem paired_at (Y : FVec Ideal S8x4096x4x2x64 .f32) (b : Fin 8) (s : Fin 4096) (j : Fin 4) (l : Fin 128) :
    paired Y (ix4 b s j l) = Y (ix5 b s j (⟨l.val / 64, by omega⟩ : Fin 2) (⟨l.val % 64, by omega⟩ : Fin 64)) := by
  pointwise [paired]

def columnsQ (P : FVec Ideal S8x4096x1440 .f32) : FVec Ideal S8x4096x512 .f32 :=
  extractStridedSlice S8x4096x512 ![0, 0, 672] P slices_S8x4096x1440_S8x4096x512_0_0_672
def columnsK (P : FVec Ideal S8x4096x1440 .f32) : FVec Ideal S8x4096x128 .f32 :=
  extractStridedSlice S8x4096x128 ![0, 0, 1184] P slices_S8x4096x1440_S8x4096x128_0_0_1184
def columnsV (P : FVec Ideal S8x4096x1440 .f32) : FVec Ideal S8x4096x128 .f32 :=
  extractStridedSlice S8x4096x128 ![0, 0, 1312] P slices_S8x4096x1440_S8x4096x128_0_0_1312

theorem columnsQ_at (P : FVec Ideal S8x4096x1440 .f32) (b : Fin 8) (s : Fin 4096) (f : Fin 512) :
    columnsQ P (ix3 b s f) = P (ix3 b s (⟨672 + f.val, by omega⟩ : Fin 1440)) := by
  pointwise [columnsQ]
theorem columnsK_at (P : FVec Ideal S8x4096x1440 .f32) (b : Fin 8) (s : Fin 4096) (f : Fin 128) :
    columnsK P (ix3 b s f) = P (ix3 b s (⟨1184 + f.val, by omega⟩ : Fin 1440)) := by
  pointwise [columnsK]
theorem columnsV_at (P : FVec Ideal S8x4096x1440 .f32) (b : Fin 8) (s : Fin 4096) (f : Fin 128) :
    columnsV P (ix3 b s f) = P (ix3 b s (⟨1312 + f.val, by omega⟩ : Fin 1440)) := by
  pointwise [columnsV]

/-! ## The six results -/

def outQA : FVec Ideal S8x8x4096x128 .bf16 :=
  by8 (scaled8 (head (plainQ (queries X W Gq Wq)) (turn4 A (turnQ (queries X W Gq Wq)))))
def outKA : FVec Ideal S8x8x4096x128 .bf16 :=
  by8 (head (plainK (keysValues X W Gk Wk)) (everyHead (turn3 A (turnK (product X W)))))
def outVA : FVec Ideal S8x4x4096x128 .bf16 := by4 (neighbours (valuesOf (keysValues X W Gk Wk)))
def outQS : FVec Ideal S8x4x4096x128 .bf16 := by4 (scaled4 (paired (swapped (columnsQ (product X W)))))
def outKS : FVec Ideal S8x1x4096x128 .bf16 := by1 (columnsK (product X W))
def outVS : FVec Ideal S8x1x4096x128 .bf16 := by1 (columnsV (product X W))

theorem outQA_at (b : Fin 8) (h : Fin 8) (s : Fin 4096) (l : Fin 128) : outQA X W Gq Wq A (ix4 b h s l)
    = qa (x X) (w W) (gq Gq) (wq Wq) (fun s j => Host.cos A (ix2 s j)) (fun s j => Host.sin A (ix2 s j)) b h s l := by
  unfold outQA
  rw [by8_at, scaled8_at]
  unfold qa
  refine congrArg (· * scale) (head_at _ _ b s h _ _ _ _ (fun j => ?_) (fun j => ?_) l)
  · exact (plainQ_at _ b s h j).trans (queries_at X W Gq Wq b s h _)
  · refine (turn4_at A _ b s h j).trans (congrArg (fun z => rotated z _ _ j) (funext fun i => ?_))
    refine (turnQ_at _ b s h i).trans ((queries_at X W Gq Wq b s h _).trans (congrArg (q _ _ _ _ b s) (Fin.ext ?_)))
    show h.val * 96 + (64 + i.val) = h.val * 96 + 64 + i.val
    omega

theorem outKA_at (b : Fin 8) (h : Fin 8) (s : Fin 4096) (l : Fin 128) : outKA X W Gk Wk A (ix4 b h s l)
    = ka (x X) (w W) (gk Gk) (wk Wk) (fun s j => Host.cos A (ix2 s j)) (fun s j => Host.sin A (ix2 s j)) b h s l := by
  unfold outKA
  rw [by8_at]
  unfold ka
  refine head_at _ _ b s h _ _ _ _ (fun j => ?_) (fun j => ?_) l
  · exact (plainK_at _ b s h j).trans (keysValues_at X W Gk Wk b s h _)
  · refine (everyHead_at _ b s h j).trans ((turn3_at A _ b s j).trans (congrArg (fun z => rotated z _ _ j) (funext fun i => ?_)))
    exact (turnK_at _ b s i).trans (product_at X W b s _)

theorem outVA_at (b : Fin 8) (n : Fin 4) (s : Fin 4096) (l : Fin 128) :
    outVA X W Gk Wk (ix4 b n s l) = va (x X) (w W) (gk Gk) (wk Wk) b n s l := by
  unfold outVA
  rw [by4_at, neighbours_at, valuesOf_at, keysValues_at]
  unfold va
  refine congrArg (kv _ _ _ _ b s) (Fin.ext ?_)
  show (2 * n.val + l.val / 64) * 128 + (64 + l.val % 64) = (2 * n.val + l.val / 64) * 128 + 64 + l.val % 64
  omega

theorem outQS_at (b : Fin 8) (n : Fin 4) (s : Fin 4096) (l : Fin 128) :
    outQS X W (ix4 b n s l) = qs (x X) (w W) b n s l := by
  unfold outQS
  rw [by4_at, scaled4_at, paired_at, swapped_at, columnsQ_at, product_at]
  unfold qs
  refine congrArg (fun f => proj _ _ b s f * factor) (Fin.ext ?_)
  show 672 + (l.val / 64 * 256 + n.val * 64 + l.val % 64) = 672 + l.val / 64 * 256 + n.val * 64 + l.val % 64
  omega

theorem outKS_at (b : Fin 8) (n : Fin 1) (s : Fin 4096) (l : Fin 128) :
    outKS X W (ix4 b n s l) = ks (x X) (w W) b s l := by
  unfold outKS
  rw [by1_at, columnsK_at, product_at]
  rfl

theorem outVS_at (b : Fin 8) (n : Fin 1) (s : Fin 4096) (l : Fin 128) :
    outVS X W (ix4 b n s l) = vs (x X) (w W) b s l := by
  unfold outVS
  rw [by1_at, columnsV_at, product_at]
  rfl

end Cert.AbRef

end
-- ==== Proof.AbClaim.lean ====
/- The first layer's projection kernel and its reference leave the same results. -/
module

public import proofs.«01_k».proof.Defs
public import proofs.«01_k».proof.Proof.Gen.Kernel1Ideal
public import proofs.«01_k».proof.Proof.Gen.Kernel1Ideal.Value
public import proofs.«01_k».proof.Proof.Gen.Reference1Ideal
public import proofs.«01_k».proof.Proof.AbArray
public import proofs.«01_k».proof.Proof.AbRef

@[expose] public section

set_option maxRecDepth 16384

noncomputable section

namespace Cert.AbClaim

open Idealize.ShloMosaic Idealize.ShloMosaic.TcCoe Idealize.SL.Sem

/-! ## The reference -/

/-- The reference's results, by its arguments. -/
theorem reference_at (m : (ℓ : Loc Reference1Ideal.nD Reference1Ideal.τ Reference1Ideal.sig) → Buf (Elt Ideal) ℓ)
    (g : Dev Reference1Ideal.nD → PrngReg) :
    θ_run (Reference1Ideal.defs (F := Ideal)) (onTc (τ := Reference1Ideal.τ) (Reference1Ideal.main (F := Ideal)))
      ⟨m, fun _ => 0, g⟩ fun r => ∀ c : Dev Reference1Ideal.nD,
      r.2.mem ((c.tc : Thread Reference1Ideal.nD Reference1Ideal.τ).loc Reference1Ideal.main_v103)
        = AbRef.outQA (m (c.tc.loc Reference1Ideal.main_arg0)) (m (c.tc.loc Reference1Ideal.main_arg1))
          (m (c.tc.loc Reference1Ideal.main_arg2)) (m (c.tc.loc Reference1Ideal.main_arg3)) AbRef.angle ∧
      r.2.mem ((c.tc : Thread Reference1Ideal.nD Reference1Ideal.τ).loc Reference1Ideal.main_v105)
        = AbRef.outKA (m (c.tc.loc Reference1Ideal.main_arg0)) (m (c.tc.loc Reference1Ideal.main_arg1))
          (m (c.tc.loc Reference1Ideal.main_arg4)) (m (c.tc.loc Reference1Ideal.main_arg5)) AbRef.angle ∧
      r.2.mem ((c.tc : Thread Reference1Ideal.nD Reference1Ideal.τ).loc Reference1Ideal.main_v107)
        = AbRef.outVA (m (c.tc.loc Reference1Ideal.main_arg0)) (m (c.tc.loc Reference1Ideal.main_arg1))
          (m (c.tc.loc Reference1Ideal.main_arg4)) (m (c.tc.loc Reference1Ideal.main_arg5)) ∧
      r.2.mem ((c.tc : Thread Reference1Ideal.nD Reference1Ideal.τ).loc Reference1Ideal.main_v109)
        = AbRef.outQS (m (c.tc.loc Reference1Ideal.main_arg0)) (m (c.tc.loc Reference1Ideal.main_arg1)) ∧
      r.2.mem ((c.tc : Thread Reference1Ideal.nD Reference1Ideal.τ).loc Reference1Ideal.main_v112)
        = AbRef.outKS (m (c.tc.loc Reference1Ideal.main_arg0)) (m (c.tc.loc Reference1Ideal.main_arg1)) ∧
      r.2.mem ((c.tc : Thread Reference1Ideal.nD Reference1Ideal.τ).loc Reference1Ideal.main_v115)
        = AbRef.outVS (m (c.tc.loc Reference1Ideal.main_arg0)) (m (c.tc.loc Reference1Ideal.main_arg1)) ∧
      r.2.mem (c.tc.loc Reference1Ideal.main_arg0) = m (c.tc.loc Reference1Ideal.main_arg0) ∧
      r.2.mem (c.tc.loc Reference1Ideal.main_arg1) = m (c.tc.loc Reference1Ideal.main_arg1) ∧
      r.2.mem (c.tc.loc Reference1Ideal.main_arg2) = m (c.tc.loc Reference1Ideal.main_arg2) ∧
      r.2.mem (c.tc.loc Reference1Ideal.main_arg3) = m (c.tc.loc Reference1Ideal.main_arg3) ∧
      r.2.mem (c.tc.loc Reference1Ideal.main_arg4) = m (c.tc.loc Reference1Ideal.main_arg4) ∧
      r.2.mem (c.tc.loc Reference1Ideal.main_arg5) = m (c.tc.loc Reference1Ideal.main_arg5) :=
  Reference1Ideal.Value.run (F := Ideal) m g

/-! ## The kernel -/

section Kernel

open Cert.Kernel1Ideal Cert.Kernel1Ideal.Gen

/-- The kernel's results, by its arguments. -/
theorem kernel_at (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v63_0) = AbArray.arrQA m c ∧
      r.2.mem ((c.tc : Thread nD τ).loc main_v63_1) = AbArray.arrKA m c ∧
      r.2.mem ((c.tc : Thread nD τ).loc main_v63_2) = AbArray.arrVA m c ∧
      r.2.mem ((c.tc : Thread nD τ).loc main_v63_3) = AbArray.arrQS m c ∧
      r.2.mem ((c.tc : Thread nD τ).loc main_v63_4) = AbArray.arrKS m c ∧
      r.2.mem ((c.tc : Thread nD τ).loc main_v63_5) = AbArray.arrVS m c ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) :=
  (θ_run _ _ _).mono (fun r h c => ⟨(h c).1.trans (AbArray.final10 m c), (h c).2.1.trans (AbArray.final11 m c), (h c).2.2.1.trans (AbArray.final12 m c), (h c).2.2.2.1.trans (AbArray.final13 m c), (h c).2.2.2.2.1.trans (AbArray.final14 m c), (h c).2.2.2.2.2.1.trans (AbArray.final15 m c), (h c).2.2.2.2.2.2⟩)
    (Kernel1Ideal.Value.run_blocks m g)

end Kernel

/-! ## Both -/

theorem algebraic : Cert.algebraic_Kernel1Ideal_Reference1Ideal (hKernel1Ideal := Kernel1Ideal.Gen.facts)
    (hReference1Ideal := Reference1Ideal.Gen.facts) := by
  intro m g m' g' _ hag
  refine ⟨fun c => AbArray.arrQA m c, fun c => AbArray.arrKA m c, fun c => AbArray.arrVA m c, fun c => AbArray.arrQS m c, fun c => AbArray.arrKS m c, fun c => AbArray.arrVS m c, kernel_at m g, ?_⟩
  refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
    (reference_at m' g')
  · obtain ⟨h0, h1, h2, h3, h4, h5⟩ := hag c
    rw [h0, h1, h2, h3]
    funext i
    idx_vars i
    exact AbRef.outQA_at _ _ _ _ _ i0 i1 i2 i3
  · obtain ⟨h0, h1, h2, h3, h4, h5⟩ := hag c
    rw [h0, h1, h4, h5]
    funext i
    idx_vars i
    exact AbRef.outKA_at _ _ _ _ _ i0 i1 i2 i3
  · obtain ⟨h0, h1, h2, h3, h4, h5⟩ := hag c
    rw [h0, h1, h4, h5]
    funext i
    idx_vars i
    exact AbRef.outVA_at _ _ _ _ i0 i1 i2 i3
  · obtain ⟨h0, h1, h2, h3, h4, h5⟩ := hag c
    rw [h0, h1]
    funext i
    idx_vars i
    exact AbRef.outQS_at _ _ i0 i1 i2 i3
  · obtain ⟨h0, h1, h2, h3, h4, h5⟩ := hag c
    rw [h0, h1]
    funext i
    idx_vars i
    exact AbRef.outKS_at _ _ i0 i1 i2 i3
  · obtain ⟨h0, h1, h2, h3, h4, h5⟩ := hag c
    rw [h0, h1]
    funext i
    idx_vars i
    exact AbRef.outVS_at _ _ i0 i1 i2 i3

end Cert.AbClaim

end
-- ==== Proof.lean ====
/- Reference2), the second layer's projection call (Kernel3, Reference3) and the first layer's (Kernel1, Reference1).

   The frames are the generated ones; of a reference, whose results are known by its run, the frame is what that run says
   of the arguments. `preserves` is trivial: the idealized kernels are the kernels' own operations. The three value
   claims are `Cert.FfnClaim.algebraic`, `Cert.ProjClaim.algebraic` and `Cert.AbClaim.algebraic`. -/
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel1
public import proofs.«01_k».proof.Proof.Gen.Kernel1.Skeleton
public import proofs.«01_k».proof.Proof.Gen.Kernel1.Launch
public import proofs.«01_k».proof.Proof.Gen.Kernel1.Points
public import proofs.«01_k».proof.Proof.Gen.Kernel1.Frame
public import proofs.«01_k».proof.Proof.Gen.Kernel1Ideal
public import proofs.«01_k».proof.Proof.Gen.Kernel1Ideal.Skeleton
public import proofs.«01_k».proof.Proof.Gen.Kernel1Ideal.Launch
public import proofs.«01_k».proof.Proof.Gen.Kernel1Ideal.Points
public import proofs.«01_k».proof.Proof.Gen.Kernel1Ideal.Frame
public import proofs.«01_k».proof.Proof.Gen.Reference1Ideal
public import proofs.«01_k».proof.Proof.Gen.Reference1Ideal.Run
public import proofs.«01_k».proof.Proof.FfnClaim
public import proofs.«01_k».proof.Proof.ProjClaim
public import proofs.«01_k».proof.Proof.AbClaim
public import Idealize.ShloMosaic.Adequacy
public import Idealize.ShloMosaic.Init

@[expose] public section

noncomputable section

namespace Cert.Proof

open Idealize.ShloMosaic Idealize.SL.Sem

theorem claim : Cert.Claim :=
  ⟨Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel1.Gen.facts, Cert.Kernel1Ideal.Gen.facts, Cert.Reference1Ideal.Gen.facts,
    fun m ρ _ => Cert.Kernel2.Gen.frame m ρ, fun m ρ _ => Cert.Kernel2Ideal.Gen.frame m ρ,
    fun m ρ _ => (θ_run _ _ _).mono (fun r h => ⟨fun c => (h c).2, sem_eq_zero_of_no_sems (by decide) r.2⟩)
      (Cert.Reference2Ideal.Value.run (F := Ideal) m ρ),
    fun m ρ _ => Cert.Kernel3.Gen.frame m ρ, fun m ρ _ => Cert.Kernel3Ideal.Gen.frame m ρ,
    fun m ρ _ => (θ_run _ _ _).mono (fun r h => ⟨fun c => (h c).2.2, sem_eq_zero_of_no_sems (by decide) r.2⟩)
      (Cert.Reference3Ideal.Value.run (F := Ideal) m ρ),
    fun m ρ _ => Cert.Kernel1.Gen.frame m ρ, fun m ρ _ => Cert.Kernel1Ideal.Gen.frame m ρ,
    fun m ρ _ => (θ_run _ _ _).mono (fun r h => ⟨fun c => (h c).2.2.2.2.2.2, sem_eq_zero_of_no_sems (by decide) r.2⟩)
      (Cert.Reference1Ideal.Value.run (F := Ideal) m ρ),
    trivial, Cert.FfnClaim.algebraic, trivial, Cert.ProjClaim.algebraic,
    trivial, Cert.AbClaim.algebraic⟩

end Cert.Proof

end
